-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1x4096x5888 : Shape := ⟨3, ![1, 4096, 5888]⟩
abbrev S5888x26624 : Shape := ⟨2, ![5888, 26624]⟩
abbrev S184x26624 : Shape := ⟨2, ![184, 26624]⟩
abbrev S_ : Shape := ⟨0, ![]⟩

class Facts : Prop where
  bitsLt_bf16_f32 : FTy.bits .bf16 < FTy.bits .f32
  bcast_S_S1x4096x5888 : S_.BroadcastsInDim S1x4096x5888 (![] : Fin 0 → Fin S1x4096x5888.rank)
  reducesTo_S1x4096x5888_S_d0_1_2 : S1x4096x5888.ReducesTo [0, 1, 2] S_
  h_S_ : 0 < S_.numel
  natLt_8_32 : 8 < 32
  bcast_S_S184x26624 : S_.BroadcastsInDim S184x26624 (![] : Fin 0 → Fin S184x26624.rank)
  reducesTo_S184x26624_S_d0_1 : S184x26624.ReducesTo [0, 1] S_

variable [Facts]

def fn {F : FTy → Type} [FloatOps F] (main_arg0 : FVec F S1x4096x5888 .bf16) (main_arg1 : FVec F S5888x26624 .fp8e4m3) (main_arg2 : IVec S184x26624 8) : IVec S_ 1 :=
  let main_v0 : FVec F S1x4096x5888 .f32 := (extf .f32 · bitsLt_bf16_f32) main_arg0
  let main_v1 : FVec F S1x4096x5888 .f32 := Host.absf main_v0
  let main_cst : FVec F S_ .f32 := constant S_ .f32 0x7F7F0000#32
  let main_v2 : FVec F S1x4096x5888 .f32 := broadcastInDim S1x4096x5888 ![] bcast_S_S1x4096x5888 main_cst
  let main_v3 : IVec S1x4096x5888 1 := cmpf .ole main_v1 main_v2
  let main_cst_0 : FVec F S_ .f32 := constant S_ .f32 0x7F800000#32
  let main_v4 : FVec F S1x4096x5888 .f32 := broadcastInDim S1x4096x5888 ![] bcast_S_S1x4096x5888 main_cst_0
  let main_v5 : IVec S1x4096x5888 1 := cmpf .oeq main_v1 main_v4
  let main_v6 : IVec S1x4096x5888 1 := ori main_v3 main_v5
  let main_c : IVec S_ 1 := constantI S_ 1 1#1
  let main_v7 : IVec S_ 1 := (fun x v => Host.reduce IntOp.andi x v reducesTo_S1x4096x5888_S_d0_1_2 h_S_) main_v6 main_c
  let main_v8 : IVec S184x26624 32 := (extui 32 · natLt_8_32) main_arg2
  let main_c_1 : IVec S_ 32 := constantI S_ 32 254#32
  let main_v9 : IVec S184x26624 32 := broadcastInDim S184x26624 ![] bcast_S_S184x26624 main_c_1
  let main_v10 : IVec S184x26624 1 := cmpi .sle main_v8 main_v9
  let main_c_2 : IVec S_ 1 := constantI S_ 1 1#1
  let main_v11 : IVec S_ 1 := (fun x v => Host.reduce IntOp.andi x v reducesTo_S184x26624_S_d0_1 h_S_) main_v10 main_c_2
  let main_v12 : IVec S_ 1 := andi main_v7 main_v11
  main_v12
-- ==== Kernel.lean ====
abbrev S1x4096x5888 : Shape := ⟨3, ![1, 4096, 5888]⟩
abbrev S5888x26624 : Shape := ⟨2, ![5888, 26624]⟩
abbrev S184x26624 : Shape := ⟨2, ![184, 26624]⟩
abbrev S4096x5888 : Shape := ⟨2, ![4096, 5888]⟩
abbrev S5888x256 : Shape := ⟨2, ![5888, 256]⟩
abbrev S_ : Shape := ⟨0, ![]⟩
abbrev S256x5888 : Shape := ⟨2, ![256, 5888]⟩
abbrev S4096x184 : Shape := ⟨2, ![4096, 184]⟩
abbrev S128x5888 : Shape := ⟨2, ![128, 5888]⟩
abbrev S128x184 : Shape := ⟨2, ![128, 184]⟩
abbrev S128x256 : Shape := ⟨2, ![128, 256]⟩
abbrev S4096x26624 : Shape := ⟨2, ![4096, 26624]⟩
abbrev S1024x5888 : Shape := ⟨2, ![1024, 5888]⟩
abbrev S5888x512 : Shape := ⟨2, ![5888, 512]⟩
abbrev S184x512 : Shape := ⟨2, ![184, 512]⟩
abbrev S1024x512 : Shape := ⟨2, ![1024, 512]⟩
abbrev S184x32x512 : Shape := ⟨3, ![184, 32, 512]⟩
abbrev S184x1x512 : Shape := ⟨3, ![184, 1, 512]⟩
abbrev S1x4096x26624 : Shape := ⟨3, ![1, 4096, 26624]⟩
abbrev S1x4096x184 : Shape := ⟨3, ![1, 4096, 184]⟩

abbrev nBuf : Space → Nat
  | .hbm => 39
  | .vmem => 18
  | .smem => 0
  | _ => 0

abbrev bufTy : (tb : Table) → Fin (tcTables nBuf tb) → BufTy
  | .hbm, ⟨0, _⟩ => ⟨S1x4096x5888, .bf16⟩
  | .hbm, ⟨1, _⟩ => ⟨S5888x26624, .fp8e4m3⟩
  | .hbm, ⟨2, _⟩ => ⟨S184x26624, .i8⟩
  | .hbm, ⟨3, _⟩ => ⟨S4096x5888, .bf16⟩
  | .hbm, ⟨4, _⟩ => ⟨S5888x256, .i32⟩
  | .hbm, ⟨5, _⟩ => ⟨S5888x256, .i32⟩
  | .hbm, ⟨6, _⟩ => ⟨S_, .i32⟩
  | .hbm, ⟨7, _⟩ => ⟨S5888x256, .i32⟩
  | .hbm, ⟨8, _⟩ => ⟨S5888x256, .i32⟩
  | .hbm, ⟨9, _⟩ => ⟨S5888x256, .i1⟩
  | .hbm, ⟨10, _⟩ => ⟨S5888x256, .bf16⟩
  | .hbm, ⟨11, _⟩ => ⟨S_, .i32⟩
  | .hbm, ⟨12, _⟩ => ⟨S_, .i32⟩
  | .hbm, ⟨13, _⟩ => ⟨S5888x256, .i32⟩
  | .hbm, ⟨14, _⟩ => ⟨S5888x256, .i32⟩
  | .hbm, ⟨15, _⟩ => ⟨S5888x256, .i32⟩
  | .hbm, ⟨16, _⟩ => ⟨S_, .i32⟩
  | .hbm, ⟨17, _⟩ => ⟨S5888x256, .i32⟩
  | .hbm, ⟨18, _⟩ => ⟨S5888x256, .i1⟩
  | .hbm, ⟨19, _⟩ => ⟨S5888x256, .i32⟩
  | .hbm, ⟨20, _⟩ => ⟨S5888x256, .i32⟩
  | .hbm, ⟨21, _⟩ => ⟨S_, .i32⟩
  | .hbm, ⟨22, _⟩ => ⟨S5888x256, .i32⟩
  | .hbm, ⟨23, _⟩ => ⟨S5888x256, .i1⟩
  | .hbm, ⟨24, _⟩ => ⟨S5888x256, .i1⟩
  | .hbm, ⟨25, _⟩ => ⟨S_, .i32⟩
  | .hbm, ⟨26, _⟩ => ⟨S5888x256, .i32⟩
  | .hbm, ⟨27, _⟩ => ⟨S5888x256, .i32⟩
  | .hbm, ⟨28, _⟩ => ⟨S5888x256, .i32⟩
  | .hbm, ⟨29, _⟩ => ⟨S5888x256, .i1⟩
  | .hbm, ⟨30, _⟩ => ⟨S5888x256, .bf16⟩
  | .hbm, ⟨31, _⟩ => ⟨S256x5888, .bf16⟩
  | .hbm, ⟨32, _⟩ => ⟨S4096x5888, .fp8e4m3⟩
  | .hbm, ⟨33, _⟩ => ⟨S4096x184, .i8⟩
  | .hbm, ⟨34, _⟩ => ⟨S4096x5888, .bf16⟩
  | .hbm, ⟨35, _⟩ => ⟨S4096x26624, .bf16⟩
  | .hbm, ⟨36, _⟩ => ⟨S1x4096x26624, .bf16⟩
  | .hbm, ⟨37, _⟩ => ⟨S1x4096x5888, .fp8e4m3⟩
  | .hbm, ⟨38, _⟩ => ⟨S1x4096x184, .i8⟩
  | .local _ .vmem, ⟨0, _⟩ => ⟨S128x5888, .bf16⟩
  | .local _ .vmem, ⟨1, _⟩ => ⟨S128x5888, .bf16⟩
  | .local _ .vmem, ⟨2, _⟩ => ⟨S5888x256, .bf16⟩
  | .local _ .vmem, ⟨3, _⟩ => ⟨S256x5888, .bf16⟩
  | .local _ .vmem, ⟨4, _⟩ => ⟨S128x5888, .fp8e4m3⟩
  | .local _ .vmem, ⟨5, _⟩ => ⟨S128x5888, .fp8e4m3⟩
  | .local _ .vmem, ⟨6, _⟩ => ⟨S128x184, .i8⟩
  | .local _ .vmem, ⟨7, _⟩ => ⟨S128x184, .i8⟩
  | .local _ .vmem, ⟨8, _⟩ => ⟨S128x5888, .bf16⟩
  | .local _ .vmem, ⟨9, _⟩ => ⟨S128x5888, .bf16⟩
  | .local _ .vmem, ⟨10, _⟩ => ⟨S1024x5888, .bf16⟩
  | .local _ .vmem, ⟨11, _⟩ => ⟨S1024x5888, .bf16⟩
  | .local _ .vmem, ⟨12, _⟩ => ⟨S5888x512, .fp8e4m3⟩
  | .local _ .vmem, ⟨13, _⟩ => ⟨S5888x512, .fp8e4m3⟩
  | .local _ .vmem, ⟨14, _⟩ => ⟨S184x512, .i8⟩
  | .local _ .vmem, ⟨15, _⟩ => ⟨S184x512, .i8⟩
  | .local _ .vmem, ⟨16, _⟩ => ⟨S1024x512, .bf16⟩
  | .local _ .vmem, ⟨17, _⟩ => ⟨S1024x512, .bf16⟩
  | _, _ => ⟨S1x4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5888 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5888x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x5888 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x184 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5888 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 52], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x5888 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S5888x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S184x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S1x4096x5888 : Shape := ⟨3, ![1, 4096, 5888]⟩
abbrev S5888x26624 : Shape := ⟨2, ![5888, 26624]⟩
abbrev S184x26624 : Shape := ⟨2, ![184, 26624]⟩
abbrev S4096x184x32 : Shape := ⟨3, ![4096, 184, 32]⟩
abbrev S184x32x26624 : Shape := ⟨3, ![184, 32, 26624]⟩
abbrev S4096x26624 : Shape := ⟨2, ![4096, 26624]⟩
abbrev S4096x184 : Shape := ⟨2, ![4096, 184]⟩
abbrev S4096x184x1 : Shape := ⟨3, ![4096, 184, 1]⟩
abbrev S184x4096x32 : Shape := ⟨3, ![184, 4096, 32]⟩
abbrev S184x4096 : Shape := ⟨2, ![184, 4096]⟩
abbrev S184x4096x26624 : Shape := ⟨3, ![184, 4096, 26624]⟩
abbrev S184x4096x1 : Shape := ⟨3, ![184, 4096, 1]⟩
abbrev S184x1x26624 : Shape := ⟨3, ![184, 1, 26624]⟩
abbrev S1x4096x26624 : Shape := ⟨3, ![1, 4096, 26624]⟩
abbrev S1x4096x184 : Shape := ⟨3, ![1, 4096, 184]⟩

abbrev nBuf : Space → Nat
  | .hbm => 11
  | .vmem => 6
  | .smem => 0
  | _ => 0

abbrev bufTy : (tb : Table) → Fin (tcTables nBuf tb) → BufTy
  | .hbm, ⟨0, _⟩ => ⟨S1x4096x5888, .bf16⟩
  | .hbm, ⟨1, _⟩ => ⟨S5888x26624, .fp8e4m3⟩
  | .hbm, ⟨2, _⟩ => ⟨S184x26624, .i8⟩
  | .hbm, ⟨3, _⟩ => ⟨S4096x184x32, .bf16⟩
  | .hbm, ⟨4, _⟩ => ⟨S184x32x26624, .fp8e4m3⟩
  | .hbm, ⟨5, _⟩ => ⟨S4096x26624, .bf16⟩
  | .hbm, ⟨6, _⟩ => ⟨S4096x184x32, .fp8e4m3⟩
  | .hbm, ⟨7, _⟩ => ⟨S4096x184, .i8⟩
  | .hbm, ⟨8, _⟩ => ⟨S1x4096x26624, .bf16⟩
  | .hbm, ⟨9, _⟩ => ⟨S1x4096x5888, .fp8e4m3⟩
  | .hbm, ⟨10, _⟩ => ⟨S1x4096x184, .i8⟩
  | .local _ .vmem, ⟨0, _⟩ => ⟨S4096x184x32, .bf16⟩
  | .local _ .vmem, ⟨1, _⟩ => ⟨S184x32x26624, .fp8e4m3⟩
  | .local _ .vmem, ⟨2, _⟩ => ⟨S184x26624, .i8⟩
  | .local _ .vmem, ⟨3, _⟩ => ⟨S4096x26624, .bf16⟩
  | .local _ .vmem, ⟨4, _⟩ => ⟨S4096x184x32, .fp8e4m3⟩
  | .local _ .vmem, ⟨5, _⟩ => ⟨S4096x184, .i8⟩
  | _, _ => ⟨S1x4096x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4096x184x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S184x32x26624 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S184x26624 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x26624 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x184x32 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x184 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Scale.lean ====
module

public import Idealize.ShloMosaic.PureOps.Ideal
public import Mathlib.Analysis.SpecialFunctions.Log.Basic
public import Mathlib.Data.EReal.Operations

@[expose] public section

noncomputable section

/-! # The block scale

  The scale of a block is the power of two `2 ^ (n - 127)` whose biased exponent is the byte `n`. One program finds that
  byte bit by bit, by comparing with the floats of the words `n <<< 23`; the other by a logarithm. This module has both
  as functions of one extended real `t` (the block's largest magnitude over 448), and shows that they agree, and which
  real numbers the scale words then denote. -/

namespace Cert.Mx

open Idealize.ShloMosaic

/-- One step of the search: the bit `b` is taken when the float of the exponent with that bit is at most `t`. -/
def step (t : EReal) (b f : BitVec 32) : BitVec 32 :=
  Scalar.select (Ideal.cmp .oge t (Ideal.ofBits .f32 (IntOp.shli .vector (f ||| b) 23#32))) (f ||| b) f

/-- The exponent field of `t`, searched from the highest bit down. -/
def field (t : EReal) : BitVec 32 :=
  step t 1#32 (step t 2#32 (step t 4#32 (step t 8#32 (step t 16#32 (step t 32#32 (step t 64#32 (step t 128#32 0#32)))))))

/-- The scale byte: 127 (the scale one) for the fields 0 and 255, else the field and one. -/
def byte (t : EReal) : BitVec 32 :=
  Scalar.select (IntOp.ori (IntOp.cmpi .eq (field t) 0#32) (IntOp.cmpi .eq (field t) 255#32)) 127#32 (field t + 1#32)

/-- The scale exponent by the logarithm: 0 below the least normal number and at infinity, else the floor of log2 and one. -/
def expo (t : EReal) : BitVec 32 :=
  if t < Ideal.ofBits .f32 8388608#32 ∨ t = Ideal.ofBits .f32 2139095040#32 then 0#32
  else IntOp.addi (FloatOps.fptosi (F := Ideal) (φ := .f32) 32 (Ideal.liftRound Int.floor
    (Ideal.div (Ideal.log t) (Ideal.log (Ideal.ofBits .f32 1073741824#32))))) 1#32

/-- The power of two whose biased exponent is `n`. -/
def pow2 (n : ℕ) : ℝ := (2 : ℝ) ^ ((n : ℤ) - 127)

/-- A power of two is positive. -/
theorem pow2_pos (n : ℕ) : 0 < pow2 n := by unfold pow2; positivity

/-- The float of the word `n <<< 23`, for every eight-bit `n`: zero, a power of two, or infinity. -/
theorem ofBits_shl (n : ℕ) (h : n < 256) :
    Ideal.ofBits .f32 (IntOp.shli .vector (BitVec.ofNat 32 n) 23#32)
      = if n = 0 then 0 else if n = 255 then ⊤ else ((pow2 n : ℝ) : EReal) := by
  have hs : IntOp.shli .vector (BitVec.ofNat 32 n) 23#32 = (BitVec.ofNat 32 n) <<< 23 := by
    simp [IntOp.shli]
  have key : ∀ n : Fin 256, ((BitVec.ofNat 32 n.val <<< 23).extractLsb' (8 + 23) 1 == 1#1) = false
      ∧ ((BitVec.ofNat 32 n.val <<< 23).extractLsb' 23 8).toNat = n.val
      ∧ ((BitVec.ofNat 32 n.val <<< 23).extractLsb' 0 23).toNat = 0 := by decide +kernel
  obtain ⟨h1, h2, h3⟩ := key ⟨n, h⟩
  rw [hs]
  show Ideal.ieee 8 23 (BitVec.ofNat 32 n <<< 23) = _
  unfold Ideal.ieee
  simp only at h1 h2 h3
  simp only [h1, h2, h3]
  by_cases hn0 : n = 0
  · simp [hn0]
  by_cases hn1 : n = 255
  · simp [hn1]
  simp only [hn0, hn1, if_false, pow2]
  norm_num [hn0, hn1]
  rw [show ((n : ℤ) - 127 : ℤ) = 23 + ((n : ℤ) - 127 - 23) by ring, zpow_add₀ (by norm_num)]
  push_cast
  norm_num

/-- A field is found when the floats at most `t` are those of the exponents at most `k`. -/
theorem field_eq (t : EReal) (k : ℕ) (hk : k < 256)
    (h : ∀ n : ℕ, n < 256 → (Ideal.ofBits .f32 (IntOp.shli .vector (BitVec.ofNat 32 n) 23#32) ≤ t ↔ n ≤ k)) :
    field t = BitVec.ofNat 32 k := by
  have hstep : ∀ (b f : ℕ), f ||| b < 256 → step t (BitVec.ofNat 32 b) (BitVec.ofNat 32 f)
      = BitVec.ofNat 32 (if f ||| b ≤ k then f ||| b else f) := by
    intro b f hbf
    have hor : (BitVec.ofNat 32 f ||| BitVec.ofNat 32 b) = BitVec.ofNat 32 (f ||| b) := by
      apply BitVec.eq_of_toNat_eq
      simp [BitVec.toNat_or, Nat.or_mod_two_pow]
    unfold step
    rw [hor]
    have hw := h _ hbf
    generalize Ideal.ofBits .f32 (IntOp.shli .vector (BitVec.ofNat 32 (f ||| b)) 23#32) = y at hw ⊢
    by_cases hc : f ||| b ≤ k
    · rw [if_pos hc]
      exact if_pos (by simp [Ideal.cmp, hw.mpr hc])
    · rw [if_neg hc]
      have hn : ¬ y ≤ t := fun h' => hc (hw.mp h')
      exact if_neg (by simp [Ideal.cmp, hn])
  have hk' : ∀ k : Fin 256, ∃ f7 f6 f5 f4 f3 f2 f1 : ℕ,
      f7 = (if 0 ||| 128 ≤ k.val then 0 ||| 128 else 0) ∧ f6 = (if f7 ||| 64 ≤ k.val then f7 ||| 64 else f7)
      ∧ f5 = (if f6 ||| 32 ≤ k.val then f6 ||| 32 else f6) ∧ f4 = (if f5 ||| 16 ≤ k.val then f5 ||| 16 else f5)
      ∧ f3 = (if f4 ||| 8 ≤ k.val then f4 ||| 8 else f4) ∧ f2 = (if f3 ||| 4 ≤ k.val then f3 ||| 4 else f3)
      ∧ f1 = (if f2 ||| 2 ≤ k.val then f2 ||| 2 else f2)
      ∧ (if f1 ||| 1 ≤ k.val then f1 ||| 1 else f1) = k.val
      ∧ f7 ||| 64 < 256 ∧ f6 ||| 32 < 256 ∧ f5 ||| 16 < 256 ∧ f4 ||| 8 < 256 ∧ f3 ||| 4 < 256 ∧ f2 ||| 2 < 256 ∧ f1 ||| 1 < 256 :=
    fun k => ⟨_, _, _, _, _, _, _, rfl, rfl, rfl, rfl, rfl, rfl, rfl, by revert k; decide +kernel⟩
  obtain ⟨f7, f6, f5, f4, f3, f2, f1, e7, e6, e5, e4, e3, e2, e1, e0, b7, b6, b5, b4, b3, b2, b1⟩ := hk' ⟨k, hk⟩
  unfold field
  rw [hstep 128 0 (by decide), ← e7, hstep 64 f7 b7, ← e6, hstep 32 f6 b6, ← e5, hstep 16 f5 b5, ← e4,
    hstep 8 f4 b4, ← e3, hstep 4 f3 b3, ← e2, hstep 2 f2 b2, ← e1, hstep 1 f1 b1, e0]

/-- The constant 2 has the logarithm of 2. -/
theorem log_two_const : Ideal.log (Ideal.ofBits .f32 1073741824#32) = ((Real.log 2 : ℝ) : EReal) := by
  have h := ofBits_shl 128 (by norm_num)
  rw [show IntOp.shli .vector (BitVec.ofNat 32 128) 23#32 = 1073741824#32 by decide] at h
  rw [h, if_neg (by norm_num), if_neg (by norm_num), show pow2 128 = 2 by norm_num [pow2]]
  show (if (2 : ℝ) ≤ 0 then (⊥ : EReal) else (Real.log 2 : EReal)) = _
  rw [if_neg (by norm_num)]

/-- The least normal number is the power of two of the exponent field 1. -/
theorem least_normal : Ideal.ofBits .f32 8388608#32 = ((pow2 1 : ℝ) : EReal) := by
  have h := ofBits_shl 1 (by norm_num)
  rw [show IntOp.shli .vector (BitVec.ofNat 32 1) 23#32 = 8388608#32 by decide] at h
  rw [h]; norm_num

/-- The word of infinity. -/
theorem ofBits_top : Ideal.ofBits .f32 2139095040#32 = (⊤ : EReal) := by
  have h := ofBits_shl 255 (by norm_num)
  rw [show IntOp.shli .vector (BitVec.ofNat 32 255) 23#32 = 2139095040#32 by decide] at h
  rw [h]; norm_num

/-- A power of two is at most `r` just when its exponent is at most the floor of `r`'s binary logarithm. -/
theorem pow2_le_iff (r : ℝ) (hr : 0 < r) (n : ℕ) : pow2 n ≤ r ↔ (n : ℤ) ≤ ⌊Real.log r / Real.log 2⌋ + 127 := by
  have h2 : 0 < Real.log 2 := Real.log_pos (by norm_num)
  rw [← sub_le_iff_le_add, Int.le_floor, le_div_iff₀ h2, ← Real.log_zpow, Real.log_le_log_iff (by positivity) hr]
  rfl

/-- The two searches agree: for a block's largest magnitude over 448 there is a byte `n` that is the one's scale byte and
    whose unbiased exponent is the other's. -/
theorem scale_exists (r : ℝ) (h0 : 0 ≤ r) (h1 : r < pow2 253) :
    ∃ n : ℕ, 2 ≤ n ∧ n ≤ 253 ∧ byte (r : EReal) = BitVec.ofNat 32 n ∧ expo (r : EReal) = BitVec.ofNat 32 n - 127#32 := by
  by_cases hsmall : r < pow2 1
  · refine ⟨127, by norm_num, by norm_num, ?_, ?_⟩
    · have hf : field (r : EReal) = BitVec.ofNat 32 0 := by
        refine field_eq _ 0 (by norm_num) fun n hn => ?_
        rw [ofBits_shl n hn]
        by_cases hn0 : n = 0
        · simp [hn0, h0]
        by_cases hn1 : n = 255
        · simp [hn1]
        simp only [hn0, hn1, if_false, EReal.coe_le_coe_iff, Nat.le_zero, iff_false, not_le]
        refine lt_of_lt_of_le hsmall ?_
        unfold pow2
        exact zpow_le_zpow_right₀ (by norm_num) (by omega)
      unfold byte; rw [hf]; decide
    · unfold expo
      rw [least_normal, if_pos (Or.inl (EReal.coe_lt_coe_iff.mpr hsmall))]
      decide
  · have hge : pow2 1 ≤ r := not_lt.mp hsmall
    have hr : 0 < r := lt_of_lt_of_le (pow2_pos 1) hge
    obtain ⟨k, hk⟩ : ∃ k : ℤ, k = ⌊Real.log r / Real.log 2⌋ := ⟨_, rfl⟩
    have hlo := (pow2_le_iff r hr 1).mp hge
    have hhi := (not_congr (pow2_le_iff r hr 253)).mp (not_le.mpr h1)
    rw [← hk] at hlo hhi
    obtain ⟨q, hq⟩ : ∃ q : ℕ, (q : ℤ) = k + 127 := ⟨(k + 127).toNat, by omega⟩
    refine ⟨q + 1, by omega, by omega, ?_, ?_⟩
    · have hf : field (r : EReal) = BitVec.ofNat 32 q := by
        refine field_eq _ q (by omega) fun n hn => ?_
        rw [ofBits_shl n hn]
        by_cases hn0 : n = 0
        · simp [hn0, h0]
        by_cases hn1 : n = 255
        · simp only [hn1, show ¬ (255 = 0) by norm_num, if_false, if_true, top_le_iff, EReal.coe_ne_top, false_iff]
          omega
        simp only [hn0, hn1, if_false, EReal.coe_le_coe_iff]
        rw [pow2_le_iff r hr n, ← hk]
        omega
      unfold byte
      rw [hf]
      have key : ∀ q : Fin 253, 1 ≤ q.val → Scalar.select (IntOp.ori (IntOp.cmpi .eq (BitVec.ofNat 32 q.val) 0#32)
          (IntOp.cmpi .eq (BitVec.ofNat 32 q.val) 255#32)) 127#32 (BitVec.ofNat 32 q.val + 1#32) = BitVec.ofNat 32 (q.val + 1) := by
        decide +kernel
      exact key ⟨q, by omega⟩ (by show 1 ≤ q; omega)
    · unfold expo
      rw [least_normal, ofBits_top, if_neg (not_or.mpr ⟨by rw [EReal.coe_lt_coe_iff]; exact hsmall, EReal.coe_ne_top r⟩),
        log_two_const]
      have h2 : Real.log 2 ≠ 0 := (Real.log_pos (by norm_num)).ne'
      have hl : Ideal.log ((r : ℝ) : EReal) = ((Real.log r : ℝ) : EReal) := by
        show (if r ≤ 0 then (⊥ : EReal) else (Real.log r : EReal)) = _
        rw [if_neg (not_le.mpr hr)]
      rw [hl, Ideal.div_coe h2]
      have hd : (Real.log r : EReal) * ((1 / Real.log 2 : ℝ) : EReal) = ((Real.log r / Real.log 2 : ℝ) : EReal) := by
        rw [← EReal.coe_mul]; congr 1; ring
      rw [hd]
      have hfl : Ideal.liftRound Int.floor ((Real.log r / Real.log 2 : ℝ) : EReal) = (((k : ℤ) : ℝ) : EReal) := by
        rw [hk]; rfl
      rw [hfl]
      show IntOp.addi (BitVec.ofInt 32 (Ideal.toIntClamped (-(2 ^ (32 - 1) : Nat)) ((2 ^ (32 - 1) : Nat) - 1) (((k : ℤ) : ℝ) : EReal))) 1#32 = _
      rw [Ideal.toIntClamped_coe]
      have hkk : (if (0 : ℝ) ≤ ((k : ℤ) : ℝ) then ⌊((k : ℤ) : ℝ)⌋ else ⌈((k : ℤ) : ℝ)⌉) = k := by
        simp
      rw [hkk, max_eq_right (by rw [le_min_iff]; constructor <;> norm_num <;> omega), min_eq_right (by norm_num; omega)]
      have hkq : k = (q : ℤ) - 127 := by omega
      rw [hkq]
      have key : ∀ q : Fin 253, IntOp.addi (BitVec.ofInt 32 ((q.val : ℤ) - 127)) 1#32 = BitVec.ofNat 32 (q.val + 1) - 127#32 := by
        decide +kernel
      exact key ⟨q, by omega⟩

/-- At infinity both searches give the scale one, whose byte is 127. -/
theorem scale_top : byte ⊤ = BitVec.ofNat 32 127 ∧ expo ⊤ = BitVec.ofNat 32 127 - 127#32 := by
  constructor
  · have hf : field ⊤ = BitVec.ofNat 32 255 :=
      field_eq _ 255 (by norm_num) fun n hn => ⟨fun _ => by omega, fun _ => le_top⟩
    unfold byte; rw [hf]; decide
  · unfold expo
    rw [if_pos (Or.inr ofBits_top.symm)]
    decide

/-! ## What the scale words denote -/

/-- The scale of the byte `n`: zero for 0 (the least float's power of two is zero in f32), a power of two otherwise. -/
def scl (n : ℕ) : ℝ := if n = 0 then 0 else pow2 n

/-- A scale is not negative. -/
theorem scl_nonneg (n : ℕ) : 0 ≤ scl n := by
  unfold scl; split
  · exact le_rfl
  · exact (pow2_pos n).le

/-- The word `n <<< 23` denotes the scale of the byte `n`, for every byte but 255. -/
theorem ofBits_scl (n : ℕ) (h : n < 255) :
    Ideal.ofBits .f32 (IntOp.shli .vector (BitVec.ofNat 32 n) 23#32) = ((scl n : ℝ) : EReal) := by
  rw [ofBits_shl n (by omega), if_neg (show n ≠ 255 by omega)]
  unfold scl
  split <;> simp

/-- A number times the two-sided form of the scale — zero below the exponent -126, else the power of two of the signed
    exponent `n - 127` — is that number times the scale of the byte `n`. -/
theorem select_scl (n : ℕ) (h : n < 255) (x : EReal) :
    Scalar.select (IntOp.cmpi .slt (BitVec.ofNat 32 n - 127#32) 4294967170#32) 0
      (x * FloatOps.exp2 (F := Ideal) (φ := .f32) (FloatOps.sitofp .f32 (BitVec.ofNat 32 n - 127#32))) = x * ((scl n : ℝ) : EReal) := by
  have key : ∀ n : Fin 255, IntOp.cmpi .slt (BitVec.ofNat 32 n.val - 127#32) 4294967170#32 = (if n.val = 0 then 1#1 else 0#1)
      ∧ (BitVec.ofNat 32 n.val - 127#32).toInt = (n.val : ℤ) - 127 := by decide +kernel
  obtain ⟨h1, h2⟩ := key ⟨n, h⟩
  simp only at h1 h2
  rw [h1]
  unfold scl
  by_cases hn : n = 0
  · simp [Scalar.select, hn]
  · rw [if_neg hn, if_neg hn]
    refine (if_neg (by decide)).trans ?_
    congr 1
    show Ideal.exp2 (((BitVec.ofNat 32 n - 127#32).toInt : ℝ) : EReal) = _
    rw [h2]
    show ((Real.rpow 2 (((n : ℤ) - 127 : ℤ) : ℝ) : ℝ) : EReal) = _
    rw [Real.rpow_eq_pow, Real.rpow_intCast]
    rfl

/-- Negating the exponent `n - 127` gives the exponent of the byte `254 - n`. -/
theorem neg_expo (n : ℕ) (h : n < 255) :
    IntOp.subi 0#32 (BitVec.ofNat 32 n - 127#32) = BitVec.ofNat 32 (254 - n) - 127#32 := by
  have key : ∀ n : Fin 255, IntOp.subi 0#32 (BitVec.ofNat 32 n.val - 127#32) = BitVec.ofNat 32 (254 - n.val) - 127#32 := by
    decide +kernel
  exact key ⟨n, h⟩

/-- The word 254 less the byte is the byte `254 - n`. -/
theorem inv_byte (n : ℕ) (h : n < 255) : IntOp.subi 254#32 (BitVec.ofNat 32 n) = BitVec.ofNat 32 (254 - n) := by
  have key : ∀ n : Fin 255, IntOp.subi 254#32 (BitVec.ofNat 32 n.val) = BitVec.ofNat 32 (254 - n.val) := by decide +kernel
  exact key ⟨n, h⟩

/-- An exponent stored as a byte (with the bias 127) and read back is that exponent. -/
theorem expo_byte (n : ℕ) (h : n < 255) :
    IntOp.subi (BitVec.setWidth 32 (BitVec.setWidth 8 (IntOp.addi (BitVec.ofNat 32 n - 127#32) 127#32))) 127#32
      = BitVec.ofNat 32 n - 127#32 := by
  have key : ∀ n : Fin 255, IntOp.subi (BitVec.setWidth 32 (BitVec.setWidth 8 (IntOp.addi (BitVec.ofNat 32 n.val - 127#32) 127#32))) 127#32
      = BitVec.ofNat 32 n.val - 127#32 := by decide +kernel
  exact key ⟨n, h⟩

/-- The exponent and the bias is the byte's own word. -/
theorem expo_bias (n : ℕ) : IntOp.addi (BitVec.ofNat 32 n - 127#32) 127#32 = BitVec.ofNat 32 n := by
  show BitVec.ofNat 32 n - 127#32 + 127#32 = _
  exact BitVec.sub_add_cancel _ _

/-! ## The constant 1/448 -/

/-- The f32 nearest 1/448, as a real number. -/
def c448 : ℝ := (2 ^ 23 + 1198373) * (2 : ℝ) ^ (-32 : ℤ)

/-- The word of the kernel's constant denotes `c448`. -/
theorem ofBits_c448 : Ideal.ofBits .f32 991054117#32 = ((c448 : ℝ) : EReal) := by
  show Ideal.ieee 8 23 991054117#32 = _
  have h1 : (((991054117#32).extractLsb' (8 + 23) 1 == 1#1) : Bool) = false := by decide
  have h2 : ((991054117#32).extractLsb' 23 8).toNat = 118 := by decide
  have h3 : ((991054117#32).extractLsb' 0 23).toNat = 1198373 := by decide
  unfold Ideal.ieee c448
  simp only [h1, h2, h3]
  norm_num

/-- The constant is positive and below one quarter. -/
theorem c448_bounds : 0 < c448 ∧ c448 < 1 / 4 := by unfold c448; norm_num

/-- The greatest finite bfloat16 number, as a real number. -/
def bf16Max : ℝ := (2 ^ 23 + 8323072) * (2 : ℝ) ^ (104 : ℤ)

/-- The word of that number denotes it. -/
theorem ofBits_bf16Max : Ideal.ofBits .f32 2139029504#32 = ((bf16Max : ℝ) : EReal) := by
  show Ideal.ieee 8 23 2139029504#32 = _
  have h1 : (((2139029504#32).extractLsb' (8 + 23) 1 == 1#1) : Bool) = false := by decide
  have h2 : ((2139029504#32).extractLsb' 23 8).toNat = 254 := by decide
  have h3 : ((2139029504#32).extractLsb' 0 23).toNat = 8323072 := by decide
  unfold Ideal.ieee bf16Max
  simp only [h1, h2, h3]
  norm_num

/-- A magnitude of at most the greatest finite bfloat16 number, times the constant, is in the range of `scale_exists`. -/
theorem scaled_lt (r : ℝ) (h0 : 0 ≤ r) (h : r ≤ bf16Max) : r * c448 < pow2 253 := by
  have h1 := c448_bounds
  have hb : bf16Max < 2 ^ 128 := by unfold bf16Max; norm_num
  have hp : pow2 253 = 2 ^ 128 * (1 / 4) := by unfold pow2; norm_num
  rw [hp]
  nlinarith

end Cert.Mx

end
-- ==== Proof.Row.lean ====
module

public import proofs.«01_k».proof.Proof.Scale
public import Mathlib.Data.EReal.Inv
public import Mathlib.Logic.Equiv.Fin.Basic

@[expose] public section

noncomputable section

/-! # One row: its codes, its scales, its product with the weights

  A row is a function of 5888 columns, in 184 blocks of 32 columns. What one program computes from a row is stated here next
  to what the other computes; the theorems of this module say that the two are equal when each of the row's magnitudes is at
  most the greatest finite bfloat16 number, or infinite, and no weight scale is the byte 255. -/

namespace Cert.Mx

open Idealize.ShloMosaic

/-- Column `i` of block `g`. -/
def col (g : Fin 184) (i : Fin 32) : Fin 5888 := ⟨32 * g.val + i.val, by omega⟩

/-- The block of a column. -/
def grp (c : Fin 5888) : Fin 184 := ⟨c.val / 32, by omega⟩

/-- The block of column `i` of block `g` is `g`. -/
theorem grp_col (g : Fin 184) (i : Fin 32) : grp (col g i) = g := by
  apply Fin.ext
  simp only [grp, col]
  omega

/-- The largest magnitude of a block. -/
def amax (x : Fin 5888 → EReal) (g : Fin 184) : EReal := Finset.univ.sup fun i : Fin 32 => max (x (col g i)) (-x (col g i))

/-- The largest magnitude of a block times the f32 nearest 1/448. -/
def top (x : Fin 5888 → EReal) (g : Fin 184) : EReal := amax x g * Ideal.ofBits .f32 991054117#32

/-- Clipping to [-448, 448]. -/
def clip (v : EReal) : EReal := min (Ideal.ofBits .f32 1138753536#32) (max (Ideal.ofBits .f32 3286237184#32) v)

/-- The kernel's code of a column: its value times the float of the word of the byte's complement, clipped. -/
def code (x : Fin 5888 → EReal) (c : Fin 5888) : EReal :=
  clip (x c * Ideal.ofBits .f32 (IntOp.shli .vector (IntOp.subi 254#32 (byte (top x (grp c)))) 23#32))

/-- The kernel's scale byte of a block. -/
def scale (x : Fin 5888 → EReal) (g : Fin 184) : BitVec 8 := BitVec.setWidth 8 (byte (top x g))

/-- The kernel's dequantised column: its code times the float of the word of the byte. -/
def xhat (x : Fin 5888 → EReal) (c : Fin 5888) : EReal :=
  code x c * Ideal.ofBits .f32 (IntOp.shli .vector (byte (top x (grp c))) 23#32)

/-- The kernel's product: the dequantised row with the weight codes, each times its block's scale word. -/
def prod (h : Fin 5888 → EReal) (w : Fin 5888 → EReal) (s : Fin 184 → BitVec 8) : EReal :=
  ∑ c : Fin 5888, h c * (w c * Ideal.ofBits .f32 (IntOp.shli .vector (BitVec.setWidth 32 (s (grp c))) 23#32))

/-- The tanh form of GELU. -/
def gelu (z : EReal) : EReal :=
  Ideal.ofBits .f32 1056964608#32 * z * (1 + Ideal.tanh (Ideal.ofBits .f32 1061962282#32 *
    (z + Ideal.ofBits .f32 1027024659#32 * z * z * z)))

/-- `v` times the power of two of a signed exponent, zero below -126, as the reference forms it. -/
def ldexp (v : EReal) (e : BitVec 32) : EReal :=
  Scalar.select (IntOp.cmpi .slt e 4294967170#32) 0 (v * FloatOps.exp2 (F := Ideal) (φ := .f32) (FloatOps.sitofp .f32 e))

/-- The reference's code of a column. -/
def codeR (x : Fin 5888 → EReal) (c : Fin 5888) : EReal := clip (ldexp (x c) (IntOp.subi 0#32 (expo (top x (grp c)))))

/-- The reference's scale byte of a block. -/
def scaleR (x : Fin 5888 → EReal) (g : Fin 184) : BitVec 8 := BitVec.setWidth 8 (IntOp.addi (expo (top x g)) 127#32)

/-- The reference's product: each block's dot product of codes, times the block's two scales, summed over the blocks. -/
def prodR (x : Fin 5888 → EReal) (w : Fin 5888 → EReal) (s : Fin 184 → BitVec 8) : EReal :=
  ∑ g : Fin 184, ldexp (ldexp (∑ i : Fin 32, codeR x (col g i) * w (col g i))
    (IntOp.subi (BitVec.setWidth 32 (scaleR x g)) 127#32)) (IntOp.subi (BitVec.setWidth 32 (s g)) 127#32)

/-- A row within range: every magnitude is at most the greatest finite bfloat16 number, or infinite. -/
def InRange (x : Fin 5888 → EReal) : Prop :=
  ∀ c, max (x c) (-x c) ≤ Ideal.ofBits .f32 2139029504#32 ∨ max (x c) (-x c) = ⊤

/-- The largest magnitude of a block of a row within range is at most the greatest finite bfloat16 number, or infinite. -/
theorem amax_range (x : Fin 5888 → EReal) (hx : InRange x) (g : Fin 184) : amax x g ≤ ((bf16Max : ℝ) : EReal) ∨ amax x g = ⊤ := by
  by_cases h : ∃ i : Fin 32, max (x (col g i)) (-x (col g i)) = ⊤
  · obtain ⟨i, hi⟩ := h
    exact Or.inr (top_le_iff.mp (hi.symm.le.trans
      (Finset.le_sup (f := fun i : Fin 32 => max (x (col g i)) (-x (col g i))) (Finset.mem_univ i))))
  · refine Or.inl ?_
    rw [← ofBits_bf16Max]
    exact Finset.sup_le fun i _ => (hx _).resolve_right fun hi => h ⟨i, hi⟩

/-- A block of a row within range has one byte `n` that both programs' searches find. -/
theorem byte_exists (x : Fin 5888 → EReal) (hx : InRange x) (g : Fin 184) :
    ∃ n : ℕ, 2 ≤ n ∧ n ≤ 253 ∧ byte (top x g) = BitVec.ofNat 32 n ∧ expo (top x g) = BitVec.ofNat 32 n - 127#32 := by
  rcases amax_range x hx g with hle | htop
  swap
  · refine ⟨127, by norm_num, by norm_num, ?_⟩
    unfold top
    rw [htop, ofBits_c448, EReal.top_mul_coe_of_pos c448_bounds.1]
    exact scale_top
  have hge : 0 ≤ amax x g := by
    refine le_trans ?_ (Finset.le_sup (f := fun i : Fin 32 => max (x (col g i)) (-x (col g i))) (Finset.mem_univ (0 : Fin 32)))
    rcases le_total 0 (x (col g 0)) with h | h
    · exact le_max_of_le_left h
    · exact le_max_of_le_right (by simpa using EReal.neg_le_neg_iff.mpr h)
  obtain ⟨r, hr⟩ : ∃ r : ℝ, amax x g = (r : EReal) := by
    refine ⟨(amax x g).toReal, (EReal.coe_toReal ?_ ?_).symm⟩
    · exact ne_of_lt (lt_of_le_of_lt hle (EReal.coe_lt_top _))
    · exact ne_of_gt (lt_of_lt_of_le (EReal.bot_lt_zero) hge)
  rw [hr] at hle hge
  have h0 : 0 ≤ r := by exact_mod_cast hge
  have h1 : r ≤ bf16Max := by exact_mod_cast hle
  unfold top
  rw [hr, ofBits_c448, ← EReal.coe_mul]
  exact scale_exists _ (mul_nonneg h0 c448_bounds.1.le) (scaled_lt r h0 h1)

/-- The two programs' codes agree. -/
theorem code_eq (x : Fin 5888 → EReal) (hx : InRange x) (c : Fin 5888) : codeR x c = code x c := by
  obtain ⟨n, hn2, hn, hb, he⟩ := byte_exists x hx (grp c)
  unfold codeR code ldexp
  rw [hb, he, neg_expo n (by omega), inv_byte n (by omega), select_scl _ (by omega), ofBits_scl _ (by omega)]

/-- The two programs' scales agree. -/
theorem scale_eq (x : Fin 5888 → EReal) (hx : InRange x) (g : Fin 184) : scaleR x g = scale x g := by
  obtain ⟨n, hn2, hn, hb, he⟩ := byte_exists x hx g
  unfold scaleR scale
  rw [hb, he, expo_bias]

/-- A finite sum times a real number that is not negative, term by term. -/
theorem sum_mul_nonneg {ι : Type} (s : Finset ι) (f : ι → EReal) (r : ℝ) (hr : 0 ≤ r) :
    (∑ i ∈ s, f i) * ((r : ℝ) : EReal) = ∑ i ∈ s, f i * ((r : ℝ) : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top _), ih]

/-- A sum over the columns is the sum over the blocks of the sums over their columns. -/
theorem sum_col (f : Fin 5888 → EReal) : ∑ c, f c = ∑ g : Fin 184, ∑ i : Fin 32, f (col g i) := by
  rw [← Fintype.sum_prod_type' (f := fun g i => f (col g i))]
  refine (Fintype.sum_equiv (finProdFinEquiv (m := 184) (n := 32)) _ _ fun p => ?_).symm
  congr 1
  apply Fin.ext
  simp only [col, finProdFinEquiv_apply_val]
  omega

/-- The two programs' products agree. -/
theorem prod_eq (x : Fin 5888 → EReal) (hx : InRange x) (w : Fin 5888 → EReal) (s : Fin 184 → BitVec 8)
    (hs : ∀ g, (s g).toNat < 255) : prodR x w s = prod (xhat x) w s := by
  unfold prodR prod
  rw [sum_col]
  refine Finset.sum_congr rfl fun g _ => ?_
  obtain ⟨n, hn2, hn, hb, he⟩ := byte_exists x hx g
  have hsg : BitVec.setWidth 32 (s g) = BitVec.ofNat 32 (s g).toNat := by
    apply BitVec.eq_of_toNat_eq
    have := (s g).isLt
    simp
  unfold ldexp scaleR
  rw [he, expo_byte n (by omega), select_scl n (by omega), hsg]
  refine (select_scl _ (hs g) _).trans ?_
  rw [sum_mul_nonneg _ _ _ (scl_nonneg _), sum_mul_nonneg _ _ _ (scl_nonneg _)]
  refine Finset.sum_congr rfl fun i _ => ?_
  unfold xhat
  rw [grp_col, hb, ofBits_scl n (by omega), hsg, ofBits_scl _ (hs g), code_eq x hx]
  simp only [mul_assoc, mul_left_comm, mul_comm]

end Cert.Mx

end
-- ==== Proof.Quant.lean ====
module

public import proofs.«01_k».proof.Proof.Row
public import proofs.«01_k».proof.Proof.Gen.KernelIdeal.Frame
public import Idealize.ShloMosaic.Lib.Pipeline.ValueKit
public import Idealize.ShloMosaic.Lib.Pointwise

@[expose] public section

set_option maxRecDepth 16384

noncomputable section

/-! # The quantising kernel at one block

  What the first launch's body stores, read at an index, as a function of the block of activations it loads and of the two
  one-hot matrices. -/

namespace Cert.KernelIdeal.Quant

open Cert.KernelIdeal Cert.KernelIdeal.Gen Cert.Mx
open Idealize.ShloMosaic Idealize.ShloMosaic.TcCoe Idealize.SL.Sem

/-! ## The scale byte -/

/-- One step of the search on a whole block. -/
def stepV (t : FVec Ideal S128x256 .f32) (b : BitVec 32) (f : IVec S128x256 32) : IVec S128x256 32 :=
  select (cmpf .oge t (bitcastToFloat .f32 (shli (ori f (broadcast S128x256 b)) (broadcast S128x256 23#32)))) (ori f (broadcast S128x256 b)) f

/-- At an index it is the step on that element. -/
theorem stepV_apply (t : FVec Ideal S128x256 .f32) (b : BitVec 32) (f : IVec S128x256 32) (j : S128x256.Idx) :
    stepV t b f j = step (t j) b (f j) := rfl

/-- The first two steps. -/
theorem pay6 (v0 : Vec Ideal S128x5888 .bf16) (v15 : Vec Ideal S5888x256 .bf16) :
    k0_pay6 v0 v15 = stepV (k0_pay5 v0 v15) 64#32 (stepV (k0_pay5 v0 v15) 128#32 (broadcast S128x256 0#32)) := rfl

/-- The other six steps and the two special fields. -/
theorem pay9_steps (t : FVec Ideal S128x256 .f32) (f : IVec S128x256 32) :
    k0_pay9 t f (ori f (broadcast S128x256 32#32)) (cmpf .oge t (bitcastToFloat .f32 (shli (ori f (broadcast S128x256 32#32)) (broadcast S128x256 23#32)))) =
    select (ori (cmpi .eq (stepV t 1#32 (stepV t 2#32 (stepV t 4#32 (stepV t 8#32 (stepV t 16#32 (stepV t 32#32 f)))))) (broadcast S128x256 0#32))
     (cmpi .eq (stepV t 1#32 (stepV t 2#32 (stepV t 4#32 (stepV t 8#32 (stepV t 16#32 (stepV t 32#32 f)))))) (broadcast S128x256 255#32))) (broadcast S128x256 127#32)
     (addi (stepV t 1#32 (stepV t 2#32 (stepV t 4#32 (stepV t 8#32 (stepV t 16#32 (stepV t 32#32 f)))))) (broadcast S128x256 1#32)) := rfl

/-- The scale byte of an element is that of its largest magnitude over 448. -/
theorem pay9_apply (v0 : Vec Ideal S128x5888 .bf16) (v15 : Vec Ideal S5888x256 .bf16) (j : S128x256.Idx) :
    k0_pay9 (k0_pay5 v0 v15) (k0_pay6 v0 v15) (k0_pay7 v0 v15) (k0_pay8 v0 v15) j = byte (k0_pay5 v0 v15 j) := by
  unfold k0_pay8 k0_pay7
  refine (congrFun (pay9_steps _ _) j).trans ?_
  rw [pay6]
  generalize k0_pay5 v0 v15 = t
  show Scalar.select (IntOp.ori (IntOp.cmpi .eq (stepV _ _ _ j) 0#32) (IntOp.cmpi .eq (stepV _ _ _ j) 255#32)) 127#32 (stepV _ _ _ j + 1#32) = _
  simp only [stepV_apply]
  rfl

/-! ## The largest magnitude of a block of 32 columns -/

/-- The maximum of a block of rows and its rotation along the columns. -/
def rotMax (k : BitVec 32) (v : FVec Ideal S128x5888 .f32) : FVec Ideal S128x5888 .f32 :=
  maximumf v (dynamicRotate 1 k none v rotates_S128x5888_d1)

/-- A rotation by 5888 - s brings column c + s to column c. -/
theorem rotMax_apply (k : BitVec 32) (s : ℕ) (hk : k.toNat = 5888 - s) (hs : 0 < s) (hs' : s < 5888)
    (v : FVec Ideal S128x5888 .f32) (p : Fin 128) (c : ℕ) (hc : c + s < 5888) :
    rotMax k v (ix2 p ⟨c, by omega⟩) = max (v (ix2 p ⟨c, by omega⟩)) (v (ix2 p ⟨c + s, hc⟩)) := by
  pointwise [rotMax]
  congr 2
  have : (c + 5888 - k.toNat % 5888) % 5888 = c + s := by rw [hk]; omega
  simp only [this]

/-- A supremum over `m + n` positions, in two parts. -/
theorem sup_range_add (f : ℕ → EReal) (m n : ℕ) :
    (Finset.range (m + n)).sup f = max ((Finset.range m).sup f) ((Finset.range n).sup fun i => f (m + i)) := by
  induction n with
  | zero => simp
  | succ n ih =>
    rw [← Nat.add_assoc, Finset.range_add_one, Finset.sup_insert, ih, Finset.range_add_one, Finset.sup_insert]
    exact max_left_comm _ _ _

/-- A block whose element at column `c` is the supremum of the `s` elements from `c` on. -/
def Win (a : ℕ → EReal) (p : Fin 128) (s : ℕ) (v : FVec Ideal S128x5888 .f32) : Prop :=
  ∀ c (h : c + s ≤ 5888) (h' : c < 5888), v (ix2 p ⟨c, h'⟩) = (Finset.range s).sup fun i => a (c + i)

/-- The maximum with the rotation doubles the window. -/
theorem Win.rot {a : ℕ → EReal} {p : Fin 128} {s : ℕ} {v : FVec Ideal S128x5888 .f32} (hv : Win a p s v)
    (k : BitVec 32) (hk : k.toNat = 5888 - s) (hs : 0 < s) (hs' : s < 5888) : Win a p (s + s) (rotMax k v) := by
  intro c h h'
  rw [rotMax_apply k s hk hs hs' v p c (by omega), hv c (by omega) h', hv (c + s) (by omega) (by omega), sup_range_add]
  simp only [Nat.add_assoc]

/-- The largest magnitudes over 448 as the matrix product of the rotated maxima with the first one-hot matrix. -/
theorem pay5 (v0 : Vec Ideal S128x5888 .bf16) (v15 : Vec Ideal S5888x256 .bf16) :
    k0_pay5 v0 v15 = mulf (matmul (F := Ideal) dot_S128x5888_S5888x256_S128x256_1_0_0_1_n_n none (φ₁ := .bf16) (φ₂ := .bf16)
      (rotMax 5872#32 (rotMax 5880#32 (rotMax 5884#32 (rotMax 5886#32 (rotMax 5887#32 (absf (k0_pay4 v0)))))))
      (shapeCast S5888x256 v15 shapeCasts_S5888x256_S5888x256) (constant S128x256 .f32 0x00000000#32))
      (broadcast S128x256 (Scalar.ofBits .f32 0x3B124925#32)) := rfl

/-- The block as loaded. -/
theorem pay4 (v0 : Vec Ideal S128x5888 .bf16) : k0_pay4 v0 = v0 := by
  funext j
  pointwise [k0_pay4]

/-- With the first one-hot matrix, element `(p, g)` is the largest magnitude over 448 of row `p`'s block `g`. -/
theorem pay5_apply (v0 : Vec Ideal S128x5888 .bf16) (v15 : Vec Ideal S5888x256 .bf16)
    (hsel : ∀ (k : Fin 5888) (g : Fin 256), v15 (ix2 k g) = if k.val = 32 * g.val then (1 : EReal) else 0)
    (p : Fin 128) (g : Fin 184) :
    k0_pay5 v0 v15 (ix2 p ⟨g.val, by omega⟩) = top (fun c => v0 (ix2 p c)) g := by
  let a : ℕ → EReal := fun n => if h : n < 5888 then max (v0 (ix2 p ⟨n, h⟩)) (-v0 (ix2 p ⟨n, h⟩)) else ⊥
  have hw0 : Win a p 1 (absf (k0_pay4 v0)) := by
    intro c h h'
    rw [pay4]
    simp only [Finset.range_one, Finset.sup_singleton, Nat.add_zero]
    show max (v0 (ix2 p ⟨c, h'⟩)) (-v0 (ix2 p ⟨c, h'⟩)) = a c
    simp only [a, h', dif_pos]
  have hw := ((((hw0.rot 5887#32 (by decide) (by decide) (by decide)).rot 5886#32 (by decide) (by decide) (by decide)).rot
    5884#32 (by decide) (by decide) (by decide)).rot 5880#32 (by decide) (by decide) (by decide)).rot 5872#32 (by decide) (by decide) (by decide)
  rw [pay5]
  generalize rotMax 5872#32 _ = r at hw ⊢
  pointwise
  unfold top
  congr 1
  rw [Finset.sum_eq_single (⟨32 * g.val, by omega⟩ : Fin 5888)]
  · rw [hsel, if_pos rfl, mul_one]
    refine (hw (32 * g.val) (by omega) (by omega)).trans ?_
    unfold amax
    refine le_antisymm (Finset.sup_le fun i hi => ?_) (Finset.sup_le fun i _ => ?_)
    · have hi' : i < 32 := by simpa using hi
      refine le_trans (le_of_eq ?_) (Finset.le_sup (f := fun i : Fin 32 => max (v0 (ix2 p (col g i))) (-v0 (ix2 p (col g i)))) (Finset.mem_univ ⟨i, hi'⟩))
      simp only [a, col, show 32 * g.val + i < 5888 by omega, dif_pos]
    · refine le_trans (le_of_eq ?_) (Finset.le_sup (f := fun i => a (32 * g.val + i)) (b := i.val) (by simp))
      simp only [a, col, show 32 * g.val + i.val < 5888 by omega, dif_pos]
  · intro k _ hk
    rw [hsel, if_neg, mul_zero]
    intro h
    exact hk (Fin.ext h)
  · intro h
    exact absurd (Finset.mem_univ _) h

/-! ## What is stored -/

/-- A sum against a column of the second one-hot matrix picks the column's block. -/
theorem sum_rep (f : Fin 256 → EReal) (v98 : Vec Ideal S256x5888 .bf16)
    (hrep : ∀ (g : Fin 256) (c : Fin 5888), v98 (ix2 g c) = if c.val / 32 = g.val then (1 : EReal) else 0) (c : Fin 5888) :
    ∑ x : Fin 256, f x * (v98 (ix2 x c) : EReal) = f ⟨(grp c).val, by omega⟩ := by
  rw [Finset.sum_eq_single (⟨(grp c).val, by omega⟩ : Fin 256)]
  · rw [hrep, if_pos (by rfl), mul_one]
  · intro k _ hk
    rw [hrep, if_neg, mul_zero]
    intro h
    exact hk (Fin.ext h.symm)
  · intro h
    exact absurd (Finset.mem_univ _) h

/-- The stored codes. -/
theorem codes_apply (v0 : Vec Ideal S128x5888 .bf16) (v15 : Vec Ideal S5888x256 .bf16) (v98 : Vec Ideal S256x5888 .bf16)
    (hsel : ∀ (k : Fin 5888) (g : Fin 256), v15 (ix2 k g) = if k.val = 32 * g.val then (1 : EReal) else 0)
    (hrep : ∀ (g : Fin 256) (c : Fin 5888), v98 (ix2 g c) = if c.val / 32 = g.val then (1 : EReal) else 0)
    (p : Fin 128) (c : Fin 5888) :
    k0_pay2 (k0_pay4 v0) (k0_pay9 (k0_pay5 v0 v15) (k0_pay6 v0 v15) (k0_pay7 v0 v15) (k0_pay8 v0 v15)) v98 (ix2 p c)
      = code (fun c => v0 (ix2 p c)) c := by
  have h9 : ∀ g : Fin 184, k0_pay9 (k0_pay5 v0 v15) (k0_pay6 v0 v15) (k0_pay7 v0 v15) (k0_pay8 v0 v15) (ix2 p ⟨g.val, by omega⟩)
      = byte (top (fun c => v0 (ix2 p c)) g) := fun g => by rw [pay9_apply, pay5_apply v0 v15 hsel]
  rw [pay4]
  generalize k0_pay9 (k0_pay5 v0 v15) (k0_pay6 v0 v15) (k0_pay7 v0 v15) (k0_pay8 v0 v15) = b at h9 ⊢
  pointwise [k0_pay2]
  refine (congrArg (fun s => min _ (max _ (_ * s))) (sum_rep _ v98 hrep c)).trans ?_
  rw [h9]
  rfl

/-- The stored dequantised values. -/
theorem xhat_apply (v0 : Vec Ideal S128x5888 .bf16) (v15 : Vec Ideal S5888x256 .bf16) (v98 : Vec Ideal S256x5888 .bf16)
    (hsel : ∀ (k : Fin 5888) (g : Fin 256), v15 (ix2 k g) = if k.val = 32 * g.val then (1 : EReal) else 0)
    (hrep : ∀ (g : Fin 256) (c : Fin 5888), v98 (ix2 g c) = if c.val / 32 = g.val then (1 : EReal) else 0)
    (p : Fin 128) (c : Fin 5888) :
    k0_pay3 (k0_pay4 v0) (k0_pay9 (k0_pay5 v0 v15) (k0_pay6 v0 v15) (k0_pay7 v0 v15) (k0_pay8 v0 v15)) v98 v98 (ix2 p c)
      = xhat (fun c => v0 (ix2 p c)) c := by
  have hc := codes_apply v0 v15 v98 hsel hrep p c
  have h9 : ∀ g : Fin 184, k0_pay9 (k0_pay5 v0 v15) (k0_pay6 v0 v15) (k0_pay7 v0 v15) (k0_pay8 v0 v15) (ix2 p ⟨g.val, by omega⟩)
      = byte (top (fun c => v0 (ix2 p c)) g) := fun g => by rw [pay9_apply, pay5_apply v0 v15 hsel]
  generalize k0_pay9 (k0_pay5 v0 v15) (k0_pay6 v0 v15) (k0_pay7 v0 v15) (k0_pay8 v0 v15) = b at h9 hc ⊢
  pointwise [k0_pay3]
  refine (congrArg (fun s => _ * s) (sum_rep _ v98 hrep c)).trans ?_
  rw [h9, hc]
  rfl

/-- The stored scale bytes. -/
theorem scales_apply (v0 : Vec Ideal S128x5888 .bf16) (v15 : Vec Ideal S5888x256 .bf16)
    (hsel : ∀ (k : Fin 5888) (g : Fin 256), v15 (ix2 k g) = if k.val = 32 * g.val then (1 : EReal) else 0)
    (p : Fin 128) (g : Fin 184) :
    k0_pay1 (k0_pay10 (k0_pay5 v0 v15) (k0_pay6 v0 v15) (k0_pay7 v0 v15) (k0_pay8 v0 v15)) (ix2 p g)
      = scale (fun c => v0 (ix2 p c)) g := by
  have h9 : k0_pay9 (k0_pay5 v0 v15) (k0_pay6 v0 v15) (k0_pay7 v0 v15) (k0_pay8 v0 v15) (ix2 p ⟨g.val, by omega⟩)
      = byte (top (fun c => v0 (ix2 p c)) g) := by rw [pay9_apply, pay5_apply v0 v15 hsel]
  unfold k0_pay10
  generalize k0_pay9 (k0_pay5 v0 v15) (k0_pay6 v0 v15) (k0_pay7 v0 v15) (k0_pay8 v0 v15) = b at h9 ⊢
  pointwise [k0_pay1]
  unfold scale
  rw [← h9]

end Cert.KernelIdeal.Quant

end
-- ==== Proof.Run.lean ====
module

public import proofs.«01_k».proof.Proof.Gen.KernelIdeal.Frame
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run of the kernel program: it ends, its three result arrays hold what the valuation after the last host
    operation says, and its argument arrays hold what they held at the start. -/
theorem run : θ_run defs (onTc (τ := τ) (main (F := F))) ⟨m, fun _ => 0, ρ⟩ (fun r => ∀ c : Dev nD,
      r.2.mem ((c.tc : Thread nD τ).loc main_v13) = W6 m ρ c (Proc.devRef .tc main_v13)
      ∧ r.2.mem ((c.tc : Thread nD τ).loc main_v14) = W6 m ρ c (Proc.devRef .tc main_v14)
      ∧ r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => (fun c =>
      ⟨h c _ (mem_uc main_v13 (by decide)), h c _ (mem_uc main_v14 (by decide)), h c _ (mem_uc main_v15 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩))

/-- The first result is the second launch's output array, reshaped. -/
theorem W6_main_v13 (c : Dev nD) : (W6 m ρ c (Proc.devRef .tc main_v13) : FVec F S1x4096x26624 .bf16)
    = shapeCast S1x4096x26624 ((dat1 (V4 m ρ) c).arrAt 3 cfg1.N : FVec F S4096x26624 .bf16) shapeCasts_S4096x26624_S1x4096x26624 := by
  rw [show (dat1 (V4 m ρ) c).arrAt 3 cfg1.N = W5 m ρ c (Proc.devRef .tc main_v12) from (W5_arr m ρ c 3).symm]
  after_results
  rfl

/-- The second result is the first launch's first output array, reshaped. -/
theorem W6_main_v14 (c : Dev nD) : (W6 m ρ c (Proc.devRef .tc main_v14) : FVec F S1x4096x5888 .fp8e4m3)
    = shapeCast S1x4096x5888 ((dat0 (V3 m ρ) c).arrAt 3 cfg0.N : FVec F S4096x5888 .fp8e4m3) shapeCasts_S4096x5888_S1x4096x5888 := by
  rw [show (dat0 (V3 m ρ) c).arrAt 3 cfg0.N = W5 m ρ c (Proc.devRef .tc main_v11_0) from
    ((W5_of_ne m ρ c main_v11_0 (by decide)).trans (W4_arr m ρ c 3)).symm]
  after_results
  rfl

/-- The third result is the first launch's second output array, reshaped. -/
theorem W6_main_v15 (c : Dev nD) : (W6 m ρ c (Proc.devRef .tc main_v15) : IVec S1x4096x184 8)
    = shapeCast S1x4096x184 ((dat0 (V3 m ρ) c).arrAt 4 cfg0.N : IVec S4096x184 8) shapeCasts_S4096x184_S1x4096x184 := by
  rw [show (dat0 (V3 m ρ) c).arrAt 4 cfg0.N = W5 m ρ c (Proc.devRef .tc main_v11_1) from
    ((W5_of_ne m ρ c main_v11_1 (by decide)).trans (W4_arr m ρ c 4)).symm]
  after_results
  rfl

/-- The second launch finds the first launch's third output array in its first operand. -/
theorem V4_main_v11_2 (c : Dev nD) : V4 m ρ c main_v11_2 = (dat0 (V3 m ρ) c).arrAt 5 cfg0.N := W4_arr m ρ c 5

/-- The second launch finds the weight codes as launched. -/
theorem V4_main_arg1 (c : Dev nD) : V4 m ρ c main_arg1 = m ((c : Thread nD τ).loc main_arg1) := W4_args m ρ c main_arg1 (by simp)

/-- The second launch finds the weight scales as launched. -/
theorem V4_main_arg2 (c : Dev nD) : V4 m ρ c main_arg2 = m ((c : Thread nD τ).loc main_arg2) := W4_args m ρ c main_arg2 (by simp)

/-- The first launch finds the activations, reshaped to two axes. -/
theorem V3_main_v0 (c : Dev nD) : (V3 m ρ c main_v0 : FVec F S4096x5888 .bf16)
    = shapeCast S4096x5888 (m ((c : Thread nD τ).loc main_arg0) : FVec F S1x4096x5888 .bf16) shapeCasts_S1x4096x5888_S4096x5888 := by
  refine (W3_of m ρ c main_v0 (by decide)).trans ((W2_of m ρ c main_v0 (by decide)).trans ?_)
  after_results
  rfl

end Cert.KernelIdeal.Run

end
-- ==== Proof.OneHot.lean ====
module

public import proofs.«01_k».proof.Proof.Run
public import Idealize.ShloMosaic.Lib.Pipeline.ValueKit
public import Idealize.ShloMosaic.Lib.Pointwise

@[expose] public section

set_option maxRecDepth 16384

noncomputable section

/-! # The two one-hot matrices the first launch reads

  The host builds them by comparing index grids: the first has a 1 at row 32 g of column g, the second a 1 at row g of
  each column of block g. -/

namespace Cert.KernelIdeal.Run

open Cert.KernelIdeal Cert.KernelIdeal.Gen
open Idealize.ShloMosaic Idealize.ShloMosaic.TcCoe Idealize.ShloMosaic.Tactic Idealize.SL Idealize.SL.Sem

/-- A comparison for equality as a float: 1 where it holds, 0 where it does not. -/
theorem uitofp_eq (P : Prop) [Decidable P] (a b : BitVec 32) (h : a = b ↔ P) :
    FloatOps.uitofp (F := Ideal) .bf16 (IntOp.cmpi .eq a b) = if P then (1 : EReal) else 0 := by
  have hc : IntOp.cmpi .eq a b = BitVec.ofBool (a == b) := rfl
  rw [hc]
  by_cases hp : P
  · rw [if_pos hp, beq_iff_eq.mpr (h.mpr hp)]
    show (((1#1).toNat : ℝ) : EReal) = 1
    simp
  · rw [if_neg hp, beq_eq_false_iff_ne.mpr (fun e => hp (h.mp e))]
    show (((0#1).toNat : ℝ) : EReal) = 0
    simp

/-- Two words of small numbers are equal when the numbers are. -/
theorem ofNat_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl
    rfl

variable (m : (ℓ : Loc nD τ sig) → Buf (Elt Ideal) ℓ) (ρ : Dev nD → PrngReg)

/-- The first one-hot matrix: 1 at row `32 g` of column `g`, 0 elsewhere. -/
theorem V3_main_v6 (c : Dev nD) (k : Fin 5888) (g : Fin 256) : (V3 m ρ c main_v6 : FVec Ideal S5888x256 .bf16) (ix2 k g) = if k.val = 32 * g.val then (1 : EReal) else 0 := by
  have h : (V3 m ρ c main_v6 : FVec Ideal S5888x256 .bf16) = (uitofp (F := Ideal) .bf16 (cmpi .eq (iotaInDim S5888x256 32 0) (muli (iotaInDim S5888x256 32 1) (broadcastInDim S5888x256 ![] bcast_S_S5888x256 (constantI S_ 32 32#32)))) : FVec Ideal S5888x256 .bf16) := by
    refine (W3_of m ρ c main_v6 (by decide)).trans ((W2_of m ρ c main_v6 (by decide)).trans ?_)
    after_results
  rw [h]
  pointwise
  refine uitofp_eq _ _ _ ?_
  have : IntOp.muli (BitVec.ofNat 32 g.val) 32#32 = BitVec.ofNat 32 (32 * g.val) := by
    apply BitVec.eq_of_toNat_eq
    show (BitVec.ofNat 32 g.val * 32#32).toNat = _
    rw [BitVec.toNat_mul, BitVec.toNat_ofNat, BitVec.toNat_ofNat, BitVec.toNat_ofNat]
    omega
  rw [this]
  exact ofNat_inj (by omega) (by omega)

/-- The lowered integer division by 32 on each row number (checked row by row). -/
theorem fdiv_word : ∀ k : Fin 5888, Scalar.select
    (IntOp.andi
      (IntOp.cmpi .ne (if BitVec.ofNat 32 k.val = 0 then 0 else if (BitVec.ofNat 32 k.val).msb = true then -1 else 1)
        (if 32#32 = 0 then (0 : BitVec 32) else if (32#32).msb = true then -1 else 1))
      (IntOp.cmpi .ne (IntOp.remsi ArithUnit.host (BitVec.ofNat 32 k.val) 32#32) 0#32))
    (IntOp.subi (IntOp.divsi ArithUnit.host (BitVec.ofNat 32 k.val) 32#32) 1#32)
    (IntOp.divsi ArithUnit.host (BitVec.ofNat 32 k.val) 32#32) = BitVec.ofNat 32 (k.val / 32) := by
  decide +kernel

/-- The host's integer division rounding down, as it is lowered. -/
def fdivV (x : IVec S5888x256 32) (d : IVec S_ 32) : IVec S5888x256 32 :=
  select (andi (cmpi .ne (signi x) (broadcastInDim S5888x256 ![] bcast_S_S5888x256 (signi d))) (cmpi .ne (Host.remsi x (broadcastInDim S5888x256 ![] bcast_S_S5888x256 d)) (broadcastInDim S5888x256 ![] bcast_S_S5888x256 (constantI S_ 32 0#32)))) (subi (Host.divsi x (broadcastInDim S5888x256 ![] bcast_S_S5888x256 d)) (broadcastInDim S5888x256 ![] bcast_S_S5888x256 (constantI S_ 32 1#32))) (Host.divsi x (broadcastInDim S5888x256 ![] bcast_S_S5888x256 d))

/-- At row `k`, dividing the row numbers by 32, it is `k / 32`. -/
theorem fdivV_apply (k : Fin 5888) (g : Fin 256) : fdivV (iotaInDim S5888x256 32 0) (constantI S_ 32 32#32) (ix2 k g) = BitVec.ofNat 32 (k.val / 32) := by
  pointwise [fdivV]
  exact fdiv_word k

/-- The second one-hot matrix: 1 at row `g` of every column of block `g`, 0 elsewhere. -/
theorem V3_main_v10 (c : Dev nD) (k : Fin 5888) (g : Fin 256) : (V3 m ρ c main_v10 : FVec Ideal S256x5888 .bf16) (ix2 g k) = if k.val / 32 = g.val then (1 : EReal) else 0 := by
  have h : (V3 m ρ c main_v10 : FVec Ideal S256x5888 .bf16) = transpose S256x5888 [1, 0] (uitofp (F := Ideal) .bf16 (cmpi .eq (W2 m ρ c (Proc.devRef .tc main_v7) : IVec S5888x256 32) (W2 m ρ c (Proc.devRef .tc main_v1) : IVec S5888x256 32))) transposes_S5888x256_S256x5888_1_0 := by
    show StableHlo.after hostOps0_2 (W2 m ρ c) (Proc.devRef .tc main_v10) = _
    generalize W2 m ρ c = w
    after_results
  have h7 : ∀ w : Valuation τ sig (Elt Ideal), (StableHlo.after (hostOps0_1 (F := Ideal)) w (Proc.devRef .tc main_v7) : IVec S5888x256 32) = fdivV (w (Proc.devRef .tc main_v2) : IVec S5888x256 32) (w (Proc.devRef .tc main_c_0) : IVec S_ 32) := by
    intro w
    after_results
    rfl
  have e7 : (W2 m ρ c (Proc.devRef .tc main_v7) : IVec S5888x256 32) = fdivV (iotaInDim S5888x256 32 0) (constantI S_ 32 32#32) := by
    refine (h7 (W1 m ρ c)).trans ?_
    rw [show (W1 m ρ c (Proc.devRef .tc main_v2) : IVec S5888x256 32) = iotaInDim S5888x256 32 0 by after_results,
      show (W1 m ρ c (Proc.devRef .tc main_c_0) : IVec S_ 32) = constantI S_ 32 32#32 by after_results]
  have e1 : (W2 m ρ c (Proc.devRef .tc main_v1) : IVec S5888x256 32) = iotaInDim S5888x256 32 1 := by
    refine (W2_of m ρ c main_v1 (by decide)).trans ?_
    after_results
  rw [h, e7, e1]
  pointwise
  rw [fdivV_apply]
  refine uitofp_eq _ _ _ ?_
  exact ofNat_inj (by omega) (by omega)

end Cert.KernelIdeal.Run

end
-- ==== Proof.Arrays.lean ====
module

public import proofs.«01_k».proof.Proof.Quant
public import proofs.«01_k».proof.Proof.OneHot

@[expose] public section

set_option maxRecDepth 16384

noncomputable section

/-! # What the first launch leaves in its three arrays -/

namespace Cert.KernelIdeal.Run

open Cert.KernelIdeal Cert.KernelIdeal.Gen Cert.KernelIdeal.Quant Cert.Mx
open Idealize.ShloMosaic Idealize.ShloMosaic.TcCoe Idealize.ShloMosaic.Tactic Idealize.SL Idealize.SL.Sem

variable (m : (ℓ : Loc nD τ sig) → Buf (Elt Ideal) ℓ) (ρ : Dev nD → PrngReg)

/-- Which block each window of the first launch is at. -/
theorem idx0 : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] :=
  (by decide +kernel : ∀ t : Fin grid0.N, _)

section Loads

variable (x0 : Vec Ideal S128x5888 .bf16) (x1 : Vec Ideal S5888x256 .bf16) (x2 : Vec Ideal S256x5888 .bf16)

/-! The blocks are loaded whole. -/

/-- The activations used by the code payload. -/
theorem pay11 : k0_pay11 x0 x1 x2 = k0_pay4 x0 := by
  unfold k0_pay11
  rw [View.ld_unit_lit _ _ (by decide)]

/-- The scaled maxima. -/
theorem pay12 : k0_pay12 x0 x1 x2 = k0_pay5 x0 x1 := by
  unfold k0_pay12
  rw [View.ld_unit_lit _ _ (by decide), View.ld_unit_lit _ _ (by decide)]

/-- The search after its first two steps. -/
theorem pay13 : k0_pay13 x0 x1 x2 = k0_pay6 x0 x1 := by
  unfold k0_pay13
  rw [View.ld_unit_lit _ _ (by decide), View.ld_unit_lit _ _ (by decide)]

/-- The third step's candidate. -/
theorem pay14 : k0_pay14 x0 x1 x2 = k0_pay7 x0 x1 := by
  unfold k0_pay14
  rw [View.ld_unit_lit _ _ (by decide), View.ld_unit_lit _ _ (by decide)]

/-- The third step's comparison. -/
theorem pay15 : k0_pay15 x0 x1 x2 = k0_pay8 x0 x1 := by
  unfold k0_pay15
  rw [View.ld_unit_lit _ _ (by decide), View.ld_unit_lit _ _ (by decide)]

/-- The scale bytes. -/
theorem pay16 : k0_pay16 x0 x1 x2 = k0_pay9 (k0_pay5 x0 x1) (k0_pay6 x0 x1) (k0_pay7 x0 x1) (k0_pay8 x0 x1) := by
  unfold k0_pay16
  rw [pay12, pay13, pay14, pay15]

end Loads

/-- Row `r` of the activations. -/
def row (c : Dev nD) (r : Fin 4096) : Fin 5888 → EReal :=
  fun k => (m ((c : Thread nD τ).loc main_arg0) : FVec Ideal S1x4096x5888 .bf16) (ix3 0 r k)

/-- The activations reshaped to two axes. -/
theorem cast_apply (X : FVec Ideal S1x4096x5888 .bf16) (r : Fin 4096) (k : Fin 5888) :
    shapeCast S4096x5888 X shapeCasts_S1x4096x5888_S4096x5888 (ix2 r k) = X (ix3 0 r k) := by
  pointwise

/-- The block of activations at a point: rows of the activations. -/
theorem blk_x (c : Dev nD) (t : Fin cfg0.N) (p : Fin 128) (k : Fin 5888) (r : Fin 4096) (hr : r.val = t.val * 128 + p.val) :
    (iblk0 (V3 m ρ) c 0 t : Vec Ideal S128x5888 .bf16) (ix2 p k) = row m c r k := by
  have e : (win0_0.blk t).view.emb (ix2 p k) = (ix2 r k : S4096x5888.Idx) := by
    blk_ext [idx0 t]
  blk_simp [iblk0, idx0 t]
  refine (congrArg _ e).trans ?_
  rw [V3_main_v0]
  exact cast_apply _ r k

/-- The first one-hot matrix is read whole. -/
theorem blk_sel (c : Dev nD) (t : Fin cfg0.N) (k : Fin 5888) (g : Fin 256) :
    (iblk0 (V3 m ρ) c 1 t : Vec Ideal S5888x256 .bf16) (ix2 k g) = if k.val = 32 * g.val then (1 : EReal) else 0 := by
  have e : (win0_1.blk t).view.emb (ix2 k g) = (ix2 k g : S5888x256.Idx) := by
    blk_ext [idx0 t]
  blk_simp [iblk0, idx0 t]
  refine (congrArg _ e).trans ?_
  exact V3_main_v6 m ρ c k g

/-- The second one-hot matrix is read whole. -/
theorem blk_rep (c : Dev nD) (t : Fin cfg0.N) (g : Fin 256) (k : Fin 5888) :
    (iblk0 (V3 m ρ) c 2 t : Vec Ideal S256x5888 .bf16) (ix2 g k) = if k.val / 32 = g.val then (1 : EReal) else 0 := by
  have e : (win0_2.blk t).view.emb (ix2 g k) = (ix2 g k : S256x5888.Idx) := by
    blk_ext [idx0 t]
  blk_simp [iblk0, idx0 t]
  refine (congrArg _ e).trans ?_
  exact V3_main_v10 m ρ c k g

/-- The array of codes: row `r` holds the codes of row `r` of the activations. -/
theorem codes_arr (c : Dev nD) : ((dat0 (V3 m ρ) c).arrAt 3 cfg0.N : FVec Ideal S4096x5888 .fp8e4m3) = fun j => code (row m c (j 0)) (j 1) := by
  refine (dat0 (V3 m ρ) c).arrAt_eq_of_covers 3 _ (by decide +kernel) fun t hf y => ?_
  blk_simp
  rw [after0_3]
  frame_out
  rw [pay11, pay16]
  have ht : t.val < 32 := lt_of_lt_of_eq t.isLt rfl
  obtain ⟨p, k, rfl⟩ : ∃ (p : Fin 128) (k : Fin 5888), y = ix2 p k := ⟨y 0, y 1, by ext a; fin_cases a <;> rfl⟩
  have e : ((View.whole main_v11_0).slice (win0_3.rect t)).emb (ix2 p k) = (ix2 ⟨t.val * 128 + p.val, by omega⟩ k : S4096x5888.Idx) := by
    blk_ext [idx0 t]
  rw [e]
  refine (codes_apply _ _ _ (blk_sel m ρ c t) (blk_rep m ρ c t) p k).trans ?_
  exact congrArg (fun f => code f k) (funext fun k => blk_x m ρ c t p k _ rfl)

/-- The array of dequantised values. -/
theorem xhat_arr (c : Dev nD) : ((dat0 (V3 m ρ) c).arrAt 5 cfg0.N : FVec Ideal S4096x5888 .bf16) = fun j => xhat (row m c (j 0)) (j 1) := by
  refine (dat0 (V3 m ρ) c).arrAt_eq_of_covers 5 _ (by decide +kernel) fun t hf y => ?_
  blk_simp
  rw [after0_5]
  frame_out
  rw [pay11, pay16]
  have ht : t.val < 32 := lt_of_lt_of_eq t.isLt rfl
  obtain ⟨p, k, rfl⟩ : ∃ (p : Fin 128) (k : Fin 5888), y = ix2 p k := ⟨y 0, y 1, by ext a; fin_cases a <;> rfl⟩
  have e : ((View.whole main_v11_2).slice (win0_5.rect t)).emb (ix2 p k) = (ix2 ⟨t.val * 128 + p.val, by omega⟩ k : S4096x5888.Idx) := by
    blk_ext [idx0 t]
  rw [e]
  refine (xhat_apply _ _ _ (blk_sel m ρ c t) (blk_rep m ρ c t) p k).trans ?_
  exact congrArg (fun f => xhat f k) (funext fun k => blk_x m ρ c t p k _ rfl)

/-- The array of scale bytes. -/
theorem scales_arr (c : Dev nD) : ((dat0 (V3 m ρ) c).arrAt 4 cfg0.N : IVec S4096x184 8) = fun j => scale (row m c (j 0)) (j 1) := by
  refine (dat0 (V3 m ρ) c).arrAt_eq_of_covers 4 _ (by decide +kernel) fun t hf y => ?_
  blk_simp
  rw [after0_4]
  frame_out
  rw [pay12, pay13, pay14, pay15]
  have ht : t.val < 32 := lt_of_lt_of_eq t.isLt rfl
  obtain ⟨p, k, rfl⟩ : ∃ (p : Fin 128) (k : Fin 184), y = ix2 p k := ⟨y 0, y 1, by ext a; fin_cases a <;> rfl⟩
  have e : ((View.whole main_v11_1).slice (win0_4.rect t)).emb (ix2 p k) = (ix2 ⟨t.val * 128 + p.val, by omega⟩ k : S4096x184.Idx) := by
    blk_ext [idx0 t]
  rw [e]
  refine (scales_apply _ _ (blk_sel m ρ c t) p k).trans ?_
  exact congrArg (fun f => scale f k) (funext fun k => blk_x m ρ c t p k _ rfl)

end Cert.KernelIdeal.Run

end
-- ==== Proof.Gemm.lean ====
module

public import proofs.«01_k».proof.Proof.Arrays
public import Idealize.ShloMosaic.Lib.Pipeline.Covers

@[expose] public section

set_option maxRecDepth 16384

noncomputable section

/-! # What the second launch leaves in its array -/

namespace Cert.KernelIdeal.Run

open Cert.KernelIdeal Cert.KernelIdeal.Gen Cert.KernelIdeal.Quant Cert.Mx
open Idealize.ShloMosaic Idealize.ShloMosaic.TcCoe Idealize.ShloMosaic.Tactic Idealize.SL Idealize.SL.Sem

variable (m : (ℓ : Loc nD τ sig) → Buf (Elt Ideal) ℓ) (ρ : Dev nD → PrngReg)

/-- What the body stores, at an index. -/
theorem gemm_apply (v0 : Vec Ideal S184x512 .i8) (v6 : Vec Ideal S5888x512 .fp8e4m3) (v13 : Vec Ideal S1024x5888 .bf16) (p : Fin 1024) (q : Fin 512) :
    k1_pay1 v0 v6 v13 (ix2 p q) = gelu (prod (fun k => v13 (ix2 p k)) (fun k => v6 (ix2 k q)) (fun g => v0 (ix2 g q))) := by
  pointwise [k1_pay1]
  unfold gelu prod
  rfl

/-- Which block each window of the second launch is at: the row block and the column block of the point. -/
theorem idx1 : ∀ t : Fin cfg1.N, win1_0.index t = ![(grid1.coords t 0).val, 0] ∧ win1_1.index t = ![0, (grid1.coords t 1).val]
    ∧ win1_2.index t = ![0, (grid1.coords t 1).val] ∧ win1_3.index t = ![(grid1.coords t 0).val, (grid1.coords t 1).val] :=
  (by decide +kernel : ∀ t : Fin grid1.N, _)

/-- The coordinates of a point of the second launch. -/
theorem coords1 (t : Fin cfg1.N) : (grid1.coords t 0).val < 4 ∧ (grid1.coords t 1).val < 52 := ⟨(grid1.coords t 0).isLt, (grid1.coords t 1).isLt⟩

/-- The block of dequantised activations at a point. -/
theorem blk_h (c : Dev nD) (t : Fin cfg1.N) (p : Fin 1024) (k : Fin 5888) (r : Fin 4096) (hr : r.val = (grid1.coords t 0).val * 1024 + p.val) :
    (iblk1 (V4 m ρ) c 0 t : Vec Ideal S1024x5888 .bf16) (ix2 p k) = xhat (row m c r) k := by
  have e : (win1_0.blk t).view.emb (ix2 p k) = (ix2 r k : S4096x5888.Idx) := by
    blk_ext [idx1 t]
  blk_simp [iblk1, idx1 t]
  refine (congrArg _ e).trans ?_
  rw [V4_main_v11_2]
  exact congrFun (xhat_arr m ρ c) _

/-- The block of weight codes at a point. -/
theorem blk_w (c : Dev nD) (t : Fin cfg1.N) (k : Fin 5888) (q : Fin 512) (j : Fin 26624) (hj : j.val = (grid1.coords t 1).val * 512 + q.val) :
    (iblk1 (V4 m ρ) c 1 t : Vec Ideal S5888x512 .fp8e4m3) (ix2 k q) = (m ((c : Thread nD τ).loc main_arg1) : FVec Ideal S5888x26624 .fp8e4m3) (ix2 k j) := by
  have e : (win1_1.blk t).view.emb (ix2 k q) = (ix2 k j : S5888x26624.Idx) := by
    blk_ext [idx1 t]
  blk_simp [iblk1, idx1 t]
  refine (congrArg _ e).trans ?_
  rw [V4_main_arg1]

/-- The block of weight scales at a point. -/
theorem blk_s (c : Dev nD) (t : Fin cfg1.N) (g : Fin 184) (q : Fin 512) (j : Fin 26624) (hj : j.val = (grid1.coords t 1).val * 512 + q.val) :
    (iblk1 (V4 m ρ) c 2 t : Vec Ideal S184x512 .i8) (ix2 g q) = (m ((c : Thread nD τ).loc main_arg2) : IVec S184x26624 8) (ix2 g j) := by
  have e : (win1_2.blk t).view.emb (ix2 g q) = (ix2 g j : S184x26624.Idx) := by
    blk_ext [idx1 t]
  blk_simp [iblk1, idx1 t]
  refine (congrArg _ e).trans ?_
  rw [V4_main_arg2]

/-- The array of results: the GELU of each row's product with each column of the weights. -/
theorem out_arr (c : Dev nD) : ((dat1 (V4 m ρ) c).arrAt 3 cfg1.N : FVec Ideal S4096x26624 .bf16) = fun j => gelu (prod (xhat (row m c (j 0)))
    (fun k => (m ((c : Thread nD τ).loc main_arg1) : FVec Ideal S5888x26624 .fp8e4m3) (ix2 k (j 1)))
    (fun g => (m ((c : Thread nD τ).loc main_arg2) : IVec S184x26624 8) (ix2 g (j 1)))) := by
  refine (dat1 (V4 m ρ) c).arrAt_eq_of_covers 3 _ (by decide +kernel) fun t hf y => ?_
  blk_simp
  rw [after1_3]
  frame_out
  have ht := coords1 t
  obtain ⟨p, q, rfl⟩ : ∃ (p : Fin 1024) (q : Fin 512), y = ix2 p q := ⟨y 0, y 1, by ext a; fin_cases a <;> rfl⟩
  have e : ((View.whole main_v12).slice (win1_3.rect t)).emb (ix2 p q) = (ix2 ⟨(grid1.coords t 0).val * 1024 + p.val, by omega⟩ ⟨(grid1.coords t 1).val * 512 + q.val, by omega⟩ : S4096x26624.Idx) := by
    blk_ext [idx1 t]
  rw [e]
  refine (gemm_apply _ _ _ p q).trans (congrArg gelu ?_)
  unfold prod
  refine Finset.sum_congr rfl fun k _ => ?_
  refine congrArg₂ (· * ·) (blk_h m ρ c t p k _ rfl) (congrArg₂ (· * ·) (blk_w m ρ c t k q _ rfl) ?_)
  exact congrArg (fun b => Ideal.ofBits .f32 (IntOp.shli .vector (BitVec.setWidth 32 b) 23#32)) (blk_s m ρ c t (grp k) q _ rfl)

end Cert.KernelIdeal.Run

end
-- ==== Proof.Ref.lean ====
module

public import proofs.«01_k».proof.Proof.Row
public import proofs.«01_k».proof.Proof.Gen.ReferenceIdeal.Frame
public import Idealize.ShloMosaic.Lib.Pipeline.ValueKit
public import Idealize.ShloMosaic.Lib.Pointwise

@[expose] public section

set_option maxRecDepth 16384

noncomputable section

/-! # The reference's body at an index -/

namespace Cert.ReferenceIdeal.Body

open Cert.ReferenceIdeal Cert.ReferenceIdeal.Gen Cert.Mx
open Idealize.ShloMosaic Idealize.ShloMosaic.TcCoe Idealize.SL.Sem

/-- A row of the activations held in blocks of 32 columns. -/
def brow (x : Vec Ideal S4096x184x32 .bf16) (r : Fin 4096) : Fin 5888 → EReal :=
  fun c => x (ix3 r (grp c) ⟨c.val % 32, by omega⟩)

/-- Column `i` of block `g` of a row. -/
theorem brow_col (x : Vec Ideal S4096x184x32 .bf16) (r : Fin 4096) (g : Fin 184) (i : Fin 32) : brow x r (col g i) = x (ix3 r g i) := by
  unfold brow
  rw [grp_col]
  congr 2
  apply Fin.ext
  simp only [col]
  omega

/-- The largest magnitudes times the f32 nearest 1/448. -/
def tops (x : Vec Ideal S4096x184x32 .bf16) : FVec Ideal S4096x184x1 .f32 :=
  mulf (shapeCast S4096x184x1 (multiReduction .maximumf [2] S4096x184 (absf (k0_pay1 x)) 0xFF800000#32 reduces_S4096x184x32_S4096x184 (.inl rfl) rfl) shapeCasts_S4096x184_S4096x184x1)
    (broadcast S4096x184x1 (Scalar.ofBits .f32 0x3B124925#32))

/-- The exponents as one expression in the scaled maxima. -/
theorem pay2 (x : Vec Ideal S4096x184x32 .bf16) : k0_pay2 x =
    select (ori (cmpf .olt (tops x) (broadcast S4096x184x1 (Scalar.ofBits .f32 0x00800000#32))) (cmpf .oeq (tops x) (broadcast S4096x184x1 (Scalar.ofBits .f32 0x7F800000#32)))) (broadcast S4096x184x1 0#32)
      (addi (fptosi 32 (floor (divf (log (tops x)) (log (broadcast S4096x184x1 (Scalar.ofBits .f32 0x40000000#32)))))) (broadcast S4096x184x1 1#32)) := rfl

/-- The word of minus infinity. -/
theorem ofBits_bot : Ideal.ofBits .f32 4286578688#32 = (⊥ : EReal) := by
  show Ideal.ieee 8 23 4286578688#32 = ⊥
  unfold Ideal.ieee
  have h1 : (4286578688#32 : BitVec 32).extractLsb' 23 8 = 255#8 := by decide
  simp [h1]

/-- The maximum over the last axis. -/
theorem maxred_apply (v : FVec Ideal S4096x184x32 .f32) (r : Fin 4096) (g : Fin 184) :
    multiReduction .maximumf [2] S4096x184 v 0xFF800000#32 reduces_S4096x184x32_S4096x184 (.inl rfl) rfl (ix2 r g) =
      Finset.univ.sup fun i : Fin 32 => v (ix3 r g i) := by
  pointwise
  rw [ofBits_bot]
  rfl

/-- A trailing axis of length one does not change an element. -/
theorem cast_apply (v : FVec Ideal S4096x184 .f32) (r : Fin 4096) (g : Fin 184) (z : Fin 1) :
    shapeCast S4096x184x1 v shapeCasts_S4096x184_S4096x184x1 (ix3 r g z) = v (ix2 r g) := by
  pointwise

/-- Widening the activations is the identity. -/
theorem pay1 (x : Vec Ideal S4096x184x32 .bf16) : k0_pay1 x = x := by
  funext j
  pointwise [k0_pay1]

/-- The magnitudes at an index. -/
theorem abs_apply (x : Vec Ideal S4096x184x32 .bf16) (j : S4096x184x32.Idx) : absf (k0_pay1 x) j = max (x j) (-x j) := by
  rw [pay1]
  rfl

/-- The product with the f32 nearest 1/448, at an index. -/
theorem scaled_apply (v : FVec Ideal S4096x184x1 .f32) (j : S4096x184x1.Idx) :
    mulf v (broadcast S4096x184x1 (Scalar.ofBits .f32 0x3B124925#32)) j = v j * Ideal.ofBits .f32 991054117#32 := by
  pointwise

/-- The largest magnitude of a block, as `amax` of the row. -/
theorem maxabs_apply (x : Vec Ideal S4096x184x32 .bf16) (r : Fin 4096) (g : Fin 184) : (Finset.univ.sup fun i : Fin 32 => (absf (k0_pay1 x) (ix3 r g i) : EReal)) = amax (brow x r) g := by
  unfold amax
  refine Finset.sup_congr rfl fun i _ => ?_
  rw [abs_apply, brow_col]

/-- The scaled maxima at an index. -/
theorem tops_apply (x : Vec Ideal S4096x184x32 .bf16) (r : Fin 4096) (g : Fin 184) (z : Fin 1) : tops x (ix3 r g z) = top (brow x r) g := by
  have h := maxabs_apply x r g
  unfold tops
  generalize absf (k0_pay1 x) = v at h ⊢
  unfold top
  rw [← h, scaled_apply, cast_apply, maxred_apply]

/-- A choice on the disjunction of two comparisons. -/
theorem select_or (p q : Prop) [Decidable p] [Decidable q] (a b : BitVec 32) :
    Scalar.select (IntOp.ori (BitVec.ofBool (decide p)) (BitVec.ofBool (decide q))) a b = if p ∨ q then a else b := by
  by_cases hp : p <;> by_cases hq : q <;> simp [hp, hq, Scalar.select, IntOp.ori]

/-- The exponent search at an index. -/
theorem search_apply (t : FVec Ideal S4096x184x1 .f32) (j : S4096x184x1.Idx) :
    select (ori (cmpf .olt t (broadcast S4096x184x1 (Scalar.ofBits .f32 0x00800000#32))) (cmpf .oeq t (broadcast S4096x184x1 (Scalar.ofBits .f32 0x7F800000#32)))) (broadcast S4096x184x1 0#32)
      (addi (fptosi 32 (floor (divf (log t) (log (broadcast S4096x184x1 (Scalar.ofBits .f32 0x40000000#32)))))) (broadcast S4096x184x1 1#32)) j
      = expo (t j) := by
  pointwise
  unfold expo
  exact select_or _ _ _ _

/-- The exponent of a block. -/
theorem pay2_apply (x : Vec Ideal S4096x184x32 .bf16) (r : Fin 4096) (g : Fin 184) (z : Fin 1) :
    k0_pay2 x (ix3 r g z) = expo (top (brow x r) g) := by
  have h := tops_apply x r g z
  rw [pay2]
  generalize tops x = t at h ⊢
  rw [← h, search_apply]

/-- The stored codes. -/
theorem pay3_apply (x : Vec Ideal S4096x184x32 .bf16) (r : Fin 4096) (g : Fin 184) (i : Fin 32) :
    k0_pay3 x (ix3 r g i) = codeR (brow x r) (col g i) := by
  have h := pay2_apply x r g 0
  pointwise [k0_pay3, k0_pay1]
  unfold codeR ldexp clip
  rw [grp_col, brow_col, ← h]

/-- The stored scale bytes. -/
theorem pay4_apply (x : Vec Ideal S4096x184x32 .bf16) (r : Fin 4096) (g : Fin 184) :
    k0_pay4 x (ix2 r g) = scaleR (brow x r) g := by
  have h := pay2_apply x r g 0
  pointwise [k0_pay4]
  unfold scaleR
  rw [← h]

/-- The stored bytes read back. -/
theorem pay6_apply (x : Vec Ideal S4096x184x32 .bf16) (r : Fin 4096) (g : Fin 184) :
    k0_pay6 x (ix2 r g) = BitVec.setWidth 32 (scaleR (brow x r) g) := by
  have h := pay4_apply x r g
  pointwise [k0_pay6]
  rw [h]

/-- The codes with the blocks first. -/
theorem pay5_apply (x : Vec Ideal S4096x184x32 .bf16) (r : Fin 4096) (g : Fin 184) (i : Fin 32) :
    k0_pay5 x (ix3 g r i) = codeR (brow x r) (col g i) := by
  rw [← pay3_apply]
  pointwise [k0_pay5]

/-- A product with a choice of zero. -/
theorem select_mul (c : BitVec 1) (a b : EReal) : Scalar.select c 0 a * b = Scalar.select c 0 (a * b) := by
  unfold Scalar.select
  split
  · exact zero_mul b
  · rfl

/-- The stored results, from the codes, the scale bytes and the weights. -/
theorem pay7_apply (v39 : FVec Ideal S184x4096x32 .fp8e4m3) (v42 : IVec S4096x184 32) (v50 : Vec Ideal S184x32x26624 .fp8e4m3)
    (v52 : Vec Ideal S184x26624 .i8) (r : Fin 4096) (j : Fin 26624) :
    k0_pay7 v39 v42 v50 v52 (ix2 r j) = gelu (∑ g : Fin 184, ldexp (ldexp (∑ i : Fin 32, v39 (ix3 g r i) * v50 (ix3 g i j))
      (IntOp.subi (v42 (ix2 r g)) 127#32)) (IntOp.subi (BitVec.setWidth 32 (v52 (ix2 g j))) 127#32)) := by
  pointwise [k0_pay7]
  unfold gelu ldexp
  simp only [select_mul]

end Cert.ReferenceIdeal.Body

end
-- ==== Proof.RefRun.lean ====
module

public import proofs.«01_k».proof.Proof.Ref
public import Idealize.ShloMosaic.Lib.Claim

@[expose] public section

set_option maxRecDepth 16384

noncomputable section

/-! # The reference's run: what its three result arrays hold -/

namespace Cert.ReferenceIdeal.Body

open Cert.ReferenceIdeal Cert.ReferenceIdeal.Gen Cert.Mx
open Idealize.ShloMosaic Idealize.ShloMosaic.TcCoe Idealize.ShloMosaic.Tactic Idealize.SL Idealize.SL.Sem

variable (m : (ℓ : Loc nD τ sig) → Buf (Elt Ideal) ℓ) (ρ : Dev nD → PrngReg)

/-- Which block each window is at: the one block there is. -/
theorem idx : ∀ t : Fin cfg0.N, win0_0.index t = ![0, 0, 0] ∧ win0_1.index t = ![0, 0, 0] ∧ win0_2.index t = ![0, 0]
    ∧ win0_3.index t = ![0, 0] ∧ win0_4.index t = ![0, 0, 0] ∧ win0_5.index t = ![0, 0] :=
  (by decide +kernel : ∀ t : Fin grid0.N, _)

/-- Row `r` of the activations. -/
def row (c : Dev nD) (r : Fin 4096) : Fin 5888 → EReal :=
  fun k => (m ((c : Thread nD τ).loc main_arg0) : FVec Ideal S1x4096x5888 .bf16) (ix3 0 r k)

/-- The activations in blocks of 32 columns, at an index. -/
theorem xcast_apply (X : FVec Ideal S1x4096x5888 .bf16) (r : Fin 4096) (k : Fin 5888) :
    shapeCast S4096x184x32 X shapeCasts_S1x4096x5888_S4096x184x32 (ix3 r (grp k) ⟨k.val % 32, by omega⟩) = X (ix3 0 r k) := by
  pointwise
  congr 2
  apply Fin.ext
  simp only [grp]
  omega

/-- The weight codes in blocks of 32 rows, at an index. -/
theorem wcast_apply (X : FVec Ideal S5888x26624 .fp8e4m3) (g : Fin 184) (i : Fin 32) (j : Fin 26624) :
    shapeCast S184x32x26624 X shapeCasts_S5888x26624_S184x32x26624 (ix3 g i j) = X (ix2 (col g i) j) := by
  pointwise
  congr 2
  apply Fin.ext
  simp only [col]
  omega

/-- The body finds the activations in blocks of 32 columns. -/
theorem V_main_v0 (c : Dev nD) : (V m c main_v0 : FVec Ideal S4096x184x32 .bf16) = shapeCast S4096x184x32 (m ((c : Thread nD τ).loc main_arg0) : FVec Ideal S1x4096x5888 .bf16) shapeCasts_S1x4096x5888_S4096x184x32 := by
  show StableHlo.after hostOps0 (fun b => m (c, b)) (Proc.devRef .tc main_v0) = _
  after_results
  rfl

/-- It finds the weight codes in blocks of 32 rows. -/
theorem V_main_v1 (c : Dev nD) : (V m c main_v1 : FVec Ideal S184x32x26624 .fp8e4m3) = shapeCast S184x32x26624 (m ((c : Thread nD τ).loc main_arg1) : FVec Ideal S5888x26624 .fp8e4m3) shapeCasts_S5888x26624_S184x32x26624 := by
  show StableHlo.after hostOps0 (fun b => m (c, b)) (Proc.devRef .tc main_v1) = _
  after_results
  rfl

/-- The contents after the launch. -/
def Wx (c : Dev nD) : Valuation τ sig (Elt Ideal) :=
  Pipeline.withArrays spec0 c (V0 m c) fun w => (dats m 0 c).arrAt w cfg0.N

/-- Each window's array holds what the launch left there. -/
theorem Wx_arr (c : Dev nD) (w : Fin cfg0.W) : Wx m c (Proc.devRef .tc (Pipeline.arrRef spec0 w)) = (dats m 0 c).arrAt w cfg0.N := by
  exact Pipeline.withArrays_arr spec0 launch0.win.arr_inj c _ _ w

/-- The first result is the launch's first output array, reshaped. -/
theorem W_main_v3 (c : Dev nD) : (Pipeline.afterTail₀ cfgs (dats m) 0 (V0 m) [hostOps1] c main_v3 : FVec Ideal S1x4096x26624 .bf16)
    = shapeCast S1x4096x26624 ((dats m 0 c).arrAt 3 cfg0.N : FVec Ideal S4096x26624 .bf16) shapeCasts_S4096x26624_S1x4096x26624 := by
  show StableHlo.after hostOps1 (Wx m c) (Proc.devRef .tc main_v3) = _
  rw [← Wx_arr m c 3]
  generalize Wx m c = w
  after_results
  rfl

/-- The second result is the launch's second output array, reshaped. -/
theorem W_main_v4 (c : Dev nD) : (Pipeline.afterTail₀ cfgs (dats m) 0 (V0 m) [hostOps1] c main_v4 : FVec Ideal S1x4096x5888 .fp8e4m3)
    = shapeCast S1x4096x5888 ((dats m 0 c).arrAt 4 cfg0.N : FVec Ideal S4096x184x32 .fp8e4m3) shapeCasts_S4096x184x32_S1x4096x5888 := by
  show StableHlo.after hostOps1 (Wx m c) (Proc.devRef .tc main_v4) = _
  rw [← Wx_arr m c 4]
  generalize Wx m c = w
  after_results
  rfl

/-- The third result is the launch's third output array, reshaped. -/
theorem W_main_v5 (c : Dev nD) : (Pipeline.afterTail₀ cfgs (dats m) 0 (V0 m) [hostOps1] c main_v5 : IVec S1x4096x184 8)
    = shapeCast S1x4096x184 ((dats m 0 c).arrAt 5 cfg0.N : IVec S4096x184 8) shapeCasts_S4096x184_S1x4096x184 := by
  show StableHlo.after hostOps1 (Wx m c) (Proc.devRef .tc main_v5) = _
  rw [← Wx_arr m c 5]
  generalize Wx m c = w
  after_results
  rfl

/-- The whole run. -/
theorem run : θ_run defs (onTc (τ := τ) (main (F := Ideal))) ⟨m, fun _ => 0, ρ⟩ (fun r => ∀ c : Dev nD,
      r.2.mem ((c.tc : Thread nD τ).loc main_v3) = (shapeCast S1x4096x26624 ((dats m 0 c).arrAt 3 cfg0.N : FVec Ideal S4096x26624 .bf16) shapeCasts_S4096x26624_S1x4096x26624 : FVec Ideal S1x4096x26624 .bf16)
      ∧ r.2.mem ((c.tc : Thread nD τ).loc main_v4) = (shapeCast S1x4096x5888 ((dats m 0 c).arrAt 4 cfg0.N : FVec Ideal S4096x184x32 .fp8e4m3) shapeCasts_S4096x184x32_S1x4096x5888 : FVec Ideal S1x4096x5888 .fp8e4m3)
      ∧ r.2.mem ((c.tc : Thread nD τ).loc main_v5) = (shapeCast S1x4096x184 ((dats m 0 c).arrAt 5 cfg0.N : IVec S4096x184 8) shapeCasts_S4096x184_S1x4096x184 : IVec S1x4096x184 8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ & unchanged m ρ
  · exact W_main_v3 m c
  · exact W_main_v4 m c
  · exact W_main_v5 m c

/-- The activations are read whole. -/
theorem blk_x (c : Dev nD) (r : Fin 4096) : brow (iblk m c 0 t0_0 : Vec Ideal S4096x184x32 .bf16) r = row m c r := by
  funext k
  unfold brow row
  have e : (win0_0.blk t0_0).view.emb (ix3 r (grp k) ⟨k.val % 32, by omega⟩) = (ix3 r (grp k) ⟨k.val % 32, by omega⟩ : S4096x184x32.Idx) := by
    blk_ext [idx t0_0]
  blk_simp [iblk, idx t0_0]
  refine (congrArg _ e).trans ?_
  rw [V_main_v0]
  exact xcast_apply _ r k

/-- The weight codes are read whole. -/
theorem blk_w (c : Dev nD) (g : Fin 184) (i : Fin 32) (j : Fin 26624) :
    (iblk m c 1 t0_0 : Vec Ideal S184x32x26624 .fp8e4m3) (ix3 g i j) = (m ((c : Thread nD τ).loc main_arg1) : FVec Ideal S5888x26624 .fp8e4m3) (ix2 (col g i) j) := by
  have e : (win0_1.blk t0_0).view.emb (ix3 g i j) = (ix3 g i j : S184x32x26624.Idx) := by
    blk_ext [idx t0_0]
  blk_simp [iblk, idx t0_0]
  refine (congrArg _ e).trans ?_
  rw [V_main_v1]
  exact wcast_apply _ g i j

/-- The weight scales are read whole. -/
theorem blk_s (c : Dev nD) (g : Fin 184) (j : Fin 26624) :
    (iblk m c 2 t0_0 : Vec Ideal S184x26624 .i8) (ix2 g j) = (m ((c : Thread nD τ).loc main_arg2) : IVec S184x26624 8) (ix2 g j) := by
  have e : (win0_2.blk t0_0).view.emb (ix2 g j) = (ix2 g j : S184x26624.Idx) := by
    blk_ext [idx t0_0]
  blk_simp [iblk, idx t0_0]
  refine (congrArg _ e).trans ?_
  exact congrFun (V_main_arg2 m c) _

/-- The array of scale bytes. -/
theorem scales_arr (c : Dev nD) : ((dats m 0 c).arrAt 5 cfg0.N : IVec S4096x184 8) = fun j => scaleR (row m c (j 0)) (j 1) := by
  refine (dats m 0 c).arrAt_eq_of_after_last 5 t0_0 (by decide +kernel) _ fun j => ?_
  blk_simp
  rw [after0_5]
  frame_out
  obtain ⟨r, g, rfl⟩ : ∃ (r : Fin 4096) (g : Fin 184), j = ix2 r g := ⟨j 0, j 1, by ext a; fin_cases a <;> rfl⟩
  refine (pay4_apply _ r g).trans ?_
  exact congrArg (fun f => scaleR f g) (blk_x m c r)

/-- The array of codes. -/
theorem codes_arr (c : Dev nD) : ((dats m 0 c).arrAt 4 cfg0.N : FVec Ideal S4096x184x32 .fp8e4m3) = fun j => codeR (row m c (j 0)) (col (j 1) (j 2)) := by
  refine (dats m 0 c).arrAt_eq_of_after_last 4 t0_0 (by decide +kernel) _ fun j => ?_
  blk_simp
  rw [after0_4]
  frame_out
  obtain ⟨r, g, i, rfl⟩ : ∃ (r : Fin 4096) (g : Fin 184) (i : Fin 32), j = ix3 r g i := ⟨j 0, j 1, j 2, by ext a; fin_cases a <;> rfl⟩
  refine (pay3_apply _ r g i).trans ?_
  exact congrArg (fun f => codeR f (col g i)) (blk_x m c r)

/-- The array of results. -/
theorem out_arr (c : Dev nD) : ((dats m 0 c).arrAt 3 cfg0.N : FVec Ideal S4096x26624 .bf16) = fun j => gelu (prodR (row m c (j 0))
    (fun k => (m ((c : Thread nD τ).loc main_arg1) : FVec Ideal S5888x26624 .fp8e4m3) (ix2 k (j 1)))
    (fun g => (m ((c : Thread nD τ).loc main_arg2) : IVec S184x26624 8) (ix2 g (j 1)))) := by
  refine (dats m 0 c).arrAt_eq_of_after_last 3 t0_0 (by decide +kernel) _ fun j => ?_
  blk_simp
  rw [after0_3]
  frame_out
  obtain ⟨r, k, rfl⟩ : ∃ (r : Fin 4096) (k : Fin 26624), j = ix2 r k := ⟨j 0, j 1, by ext a; fin_cases a <;> rfl⟩
  refine (pay7_apply _ _ _ _ r k).trans ?_
  unfold prodR
  refine congrArg gelu (Finset.sum_congr rfl fun g _ => ?_)
  rw [pay6_apply, blk_s, blk_x]
  refine congrArg (fun s => ldexp (ldexp s _) _) (Finset.sum_congr rfl fun i _ => ?_)
  rw [pay5_apply, blk_w, blk_x]
  rfl

end Cert.ReferenceIdeal.Body

end
-- ==== Proof.Pre.lean ====
module

public import proofs.«01_k».proof.Pre_in_range
public import Idealize.ShloMosaic.Lib.ReduceAll
public import Idealize.ShloMosaic.Lib.Affine
public import Idealize.ShloMosaic.Lib.Pointwise

@[expose] public section

set_option maxRecDepth 16384

noncomputable section

/-! # What the precondition says -/

namespace Cert.Pre_in_range

open Idealize.ShloMosaic

variable [Facts]

/-- A truth value written as a bit is 1 only when it is true. -/
theorem ofBool_one {b : Bool} (h : BitVec.ofBool b = 1#1) : b = true := by
  revert h
  cases b <;> decide

/-- Under the precondition every activation is at most the greatest finite bfloat16 number in magnitude, or infinite,
    and no weight scale is the byte 255. -/
theorem decode (x : FVec Ideal S1x4096x5888 .bf16) (w : FVec Ideal S5888x26624 .fp8e4m3) (s : IVec S184x26624 8)
    (h : fn (F := Ideal) x w s = fun _ => 1#1) :
    (∀ i, max (x i) (-x i) ≤ Ideal.ofBits .f32 2139029504#32 ∨ max (x i) (-x i) = Ideal.ofBits .f32 2139095040#32) ∧ ∀ i, (s i).toNat < 255 := by
  have h0 := congrFun h (fun a => a.elim0)
  dsimp only [fn] at h0
  obtain ⟨hx, hs⟩ := IntOp.andi_eq_one.1 h0
  constructor
  · intro i
    have h1 := Host.reduce_andi_all _ _ _ _ _ hx i
    rcases IntOp.ori_eq_one.1 h1 with h2 | h2
    · exact Or.inl (of_decide_eq_true (ofBool_one h2))
    · exact Or.inr (of_decide_eq_true (ofBool_one h2))
  · intro i
    have h1 := Host.reduce_andi_all _ _ _ _ _ hs i
    have h2 : (BitVec.setWidth 32 (s i)).toInt ≤ (254#32).toInt := IntOp.cmpi_sle.1 h1
    rw [BitVec.toInt_eq_toNat_of_lt (by rw [BitVec.toNat_setWidth]; have := (s i).isLt; omega), BitVec.toNat_setWidth] at h2
    have h3 : (254#32).toInt = 254 := by decide
    have := (s i).isLt
    omega

end Cert.Pre_in_range

end
-- ==== Proof.Equal.lean ====
module

public import proofs.«01_k».proof.Proof.Gemm
public import proofs.«01_k».proof.Proof.RefRun
public import proofs.«01_k».proof.Proof.Pre

@[expose] public section

set_option maxRecDepth 16384

noncomputable section

/-! # The two programs leave the same arrays -/

namespace Cert.Equal

open Cert.KernelIdeal Cert.Mx
open Idealize.ShloMosaic Idealize.ShloMosaic.TcCoe Idealize.ShloMosaic.Tactic Idealize.SL Idealize.SL.Sem

/-- A memory of the kernel. -/
abbrev KMem := (ℓ : Loc Cert.KernelIdeal.nD Cert.KernelIdeal.τ Cert.KernelIdeal.sig) → Buf (Elt Ideal) ℓ
/-- A memory of the reference. -/
abbrev RMem := (ℓ : Loc Cert.ReferenceIdeal.nD Cert.ReferenceIdeal.τ Cert.ReferenceIdeal.sig) → Buf (Elt Ideal) ℓ

variable (m : KMem) (ρ : Dev Cert.KernelIdeal.nD → PrngReg) (m' : RMem) (c : Dev Cert.KernelIdeal.nD)

/-- The activations given to the kernel. -/
abbrev kx : FVec Ideal S1x4096x5888 .bf16 := m ((c.tc : Thread Cert.KernelIdeal.nD Cert.KernelIdeal.τ).loc Cert.KernelIdeal.main_arg0)
/-- The weight codes given to the kernel. -/
abbrev kw : FVec Ideal S5888x26624 .fp8e4m3 := m ((c.tc : Thread Cert.KernelIdeal.nD Cert.KernelIdeal.τ).loc Cert.KernelIdeal.main_arg1)
/-- The weight scales given to the kernel. -/
abbrev ks : IVec S184x26624 8 := m ((c.tc : Thread Cert.KernelIdeal.nD Cert.KernelIdeal.τ).loc Cert.KernelIdeal.main_arg2)
/-- The activations given to the reference. -/
abbrev rx : FVec Ideal S1x4096x5888 .bf16 := m' ((c.tc : Thread Cert.ReferenceIdeal.nD Cert.ReferenceIdeal.τ).loc Cert.ReferenceIdeal.main_arg0)
/-- The weight codes given to the reference. -/
abbrev rwt : FVec Ideal S5888x26624 .fp8e4m3 := m' ((c.tc : Thread Cert.ReferenceIdeal.nD Cert.ReferenceIdeal.τ).loc Cert.ReferenceIdeal.main_arg1)
/-- The weight scales given to the reference. -/
abbrev rs : IVec S184x26624 8 := m' ((c.tc : Thread Cert.ReferenceIdeal.nD Cert.ReferenceIdeal.τ).loc Cert.ReferenceIdeal.main_arg2)

/-- The activations are bfloat16 numbers or infinities, as the precondition says it. -/
def ArgInRange : Prop :=
  ∀ i, max (kx m c i) (-kx m c i) ≤ Ideal.ofBits .f32 2139029504#32 ∨ max (kx m c i) (-kx m c i) = Ideal.ofBits .f32 2139095040#32

/-- Every row of activations within range is a row within range. -/
theorem row_inRange (hx : ArgInRange m c) (r : Fin 4096) : InRange (Cert.KernelIdeal.Run.row m c r) :=
  fun k => (hx (ix3 0 r k)).imp_right fun h => h.trans ofBits_top

/-- The two programs read the same rows. -/
theorem row_eq (h0 : rx m' c = kx m c) (r : Fin 4096) : Cert.ReferenceIdeal.Body.row m' c r = Cert.KernelIdeal.Run.row m c r := by
  funext k
  exact congrFun h0 (ix3 0 r k)

/-- The first results agree before their last reshape. -/
theorem out_eq (hx : ArgInRange m c) (hs : ∀ i, (ks m c i).toNat < 255)
    (h0 : rx m' c = kx m c) (h1 : rwt m' c = kw m c) (h2 : rs m' c = ks m c) :
    ((Cert.ReferenceIdeal.Gen.dats m' 0 c).arrAt 3 Cert.ReferenceIdeal.cfg0.N : FVec Ideal S4096x26624 .bf16)
      = ((Cert.KernelIdeal.Gen.dat1 (Cert.KernelIdeal.Gen.V4 m ρ) c).arrAt 3 Cert.KernelIdeal.cfg1.N : FVec Ideal S4096x26624 .bf16) := by
  refine (Cert.ReferenceIdeal.Body.out_arr m' c).trans (Eq.trans ?_ (Cert.KernelIdeal.Run.out_arr m ρ c).symm)
  funext j
  obtain ⟨r, k, rfl⟩ : ∃ (r : Fin 4096) (k : Fin 26624), j = ix2 r k := ⟨j 0, j 1, by ext a; fin_cases a <;> rfl⟩
  have e := prod_eq (Cert.KernelIdeal.Run.row m c r) (row_inRange m c hx r) (fun a => kw m c (ix2 a k)) (fun g => ks m c (ix2 g k)) (fun g => hs _)
  have e1 : (fun a => rwt m' c (ix2 a k)) = fun a => kw m c (ix2 a k) := by rw [h1]
  have e2 : (fun g => rs m' c (ix2 g k)) = fun g => ks m c (ix2 g k) := by rw [h2]
  show gelu (prodR (Cert.ReferenceIdeal.Body.row m' c r) (fun a => rwt m' c (ix2 a k)) (fun g => rs m' c (ix2 g k))) = _
  rw [row_eq m m' c h0, e1, e2]
  exact congrArg gelu e

/-- Reading 184 blocks of 32 columns as 5888 columns. -/
theorem ungroup (X : Vec Ideal Cert.ReferenceIdeal.S4096x184x32 .fp8e4m3) (h : Cert.ReferenceIdeal.S4096x184x32.ShapeCasts S1x4096x5888) (r : Fin 4096) (k : Fin 5888) :
    (shapeCast S1x4096x5888 X h : Vec Ideal S1x4096x5888 .fp8e4m3) (ix3 0 r k) = X (ix3 r (grp k) ⟨k.val % 32, by omega⟩) := by
  pointwise
  rfl

/-- Reading a matrix as a stack of one. -/
theorem unstack (X : Vec Ideal S4096x5888 .fp8e4m3) (h : S4096x5888.ShapeCasts S1x4096x5888) (r : Fin 4096) (k : Fin 5888) :
    (shapeCast S1x4096x5888 X h : Vec Ideal S1x4096x5888 .fp8e4m3) (ix3 0 r k) = X (ix2 r k) := by
  pointwise

/-- The second results agree. -/
theorem codes_eq (hx : ArgInRange m c) (h0 : rx m' c = kx m c) :
    (shapeCast S1x4096x5888 ((Cert.ReferenceIdeal.Gen.dats m' 0 c).arrAt 4 Cert.ReferenceIdeal.cfg0.N : FVec Ideal Cert.ReferenceIdeal.S4096x184x32 .fp8e4m3)
        Cert.ReferenceIdeal.Gen.shapeCasts_S4096x184x32_S1x4096x5888 : FVec Ideal S1x4096x5888 .fp8e4m3)
      = shapeCast S1x4096x5888 ((Cert.KernelIdeal.Gen.dat0 (Cert.KernelIdeal.Gen.V3 m ρ) c).arrAt 3 Cert.KernelIdeal.cfg0.N : FVec Ideal S4096x5888 .fp8e4m3)
        Cert.KernelIdeal.Gen.shapeCasts_S4096x5888_S1x4096x5888 := by
  rw [Cert.ReferenceIdeal.Body.codes_arr m' c, Cert.KernelIdeal.Run.codes_arr m ρ c]
  funext j
  obtain ⟨z, r, k, rfl⟩ : ∃ (z : Fin 1) (r : Fin 4096) (k : Fin 5888), j = ix3 z r k := ⟨j 0, j 1, j 2, by ext a; fin_cases a <;> rfl⟩
  obtain rfl : z = 0 := Subsingleton.elim _ _
  refine (ungroup _ _ r k).trans (Eq.trans ?_ (unstack _ _ r k).symm)
  have e : col (grp k) ⟨k.val % 32, by omega⟩ = k := by
    apply Fin.ext
    simp only [col, grp]
    omega
  show codeR (Cert.ReferenceIdeal.Body.row m' c r) (col (grp k) ⟨k.val % 32, _⟩) = code (Cert.KernelIdeal.Run.row m c r) k
  rw [row_eq m m' c h0, e]
  exact code_eq _ (row_inRange m c hx r) k

/-- The third results agree before their last reshape. -/
theorem scales_eq (hx : ArgInRange m c) (h0 : rx m' c = kx m c) :
    ((Cert.ReferenceIdeal.Gen.dats m' 0 c).arrAt 5 Cert.ReferenceIdeal.cfg0.N : IVec S4096x184 8)
      = ((Cert.KernelIdeal.Gen.dat0 (Cert.KernelIdeal.Gen.V3 m ρ) c).arrAt 4 Cert.KernelIdeal.cfg0.N : IVec S4096x184 8) := by
  refine (Cert.ReferenceIdeal.Body.scales_arr m' c).trans (Eq.trans ?_ (Cert.KernelIdeal.Run.scales_arr m ρ c).symm)
  funext j
  obtain ⟨r, g, rfl⟩ : ∃ (r : Fin 4096) (g : Fin 184), j = ix2 r g := ⟨j 0, j 1, by ext a; fin_cases a <;> rfl⟩
  show scaleR (Cert.ReferenceIdeal.Body.row m' c r) g = scale (Cert.KernelIdeal.Run.row m c r) g
  rw [row_eq m m' c h0]
  exact scale_eq _ (row_inRange m c hx r) g

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Equal
public import Idealize.ShloMosaic.Adequacy
public import Idealize.ShloMosaic.Init

@[expose] public section

noncomputable section

namespace Cert.Proof

open Idealize.ShloMosaic Idealize.SL.Sem Cert.Kernel

/-- From activations that are bfloat16 numbers or infinities, and no weight scale of 255, the kernel and the reference end with equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hagree
  have hd := fun c => Cert.Pre_in_range.decode _ _ _ (hpre c)
  refine ⟨fun c => Cert.KernelIdeal.Gen.W6 m g c (Proc.devRef .tc Cert.KernelIdeal.main_v13),
    fun c => Cert.KernelIdeal.Gen.W6 m g c (Proc.devRef .tc Cert.KernelIdeal.main_v14),
    fun c => Cert.KernelIdeal.Gen.W6 m g c (Proc.devRef .tc Cert.KernelIdeal.main_v15),
    Cert.KernelIdeal.Run.run m g, ?_⟩
  refine θ_run_mono (Cert.ReferenceIdeal.Body.run m' g') fun r h c => ?_
  obtain ⟨h3, h4, h5, ha⟩ := h c
  obtain ⟨hx, hs⟩ := hd c
  obtain ⟨e0, e1, e2⟩ := hagree c
  refine ⟨h3.trans ?_, h4.trans ?_, h5.trans ?_, ha⟩
  · rw [Cert.Equal.out_eq m g m' c hx hs e0 e1 e2]
    exact (Cert.KernelIdeal.Run.W6_main_v13 m g c).symm
  · exact (Cert.Equal.codes_eq m g m' c hx e0).trans (Cert.KernelIdeal.Run.W6_main_v14 m g c).symm
  · rw [Cert.Equal.scales_eq m g m' c hx e0]
    exact (Cert.KernelIdeal.Run.W6_main_v15 m g c).symm

theorem claim : Cert.Claim := ⟨Cert.Kernel.Gen.facts, Cert.KernelIdeal.Gen.facts, Cert.ReferenceIdeal.Gen.facts, Cert.Pre_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
